-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_rows_named_values_finite [hPre_rows_named_values_finite : Cert.Pre_rows_named_values_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_rows_named_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_rows_named_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_rows_named_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_rows_named_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_rows_named_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named_values_finite [hPre_rows_named_values_finite : Cert.Pre_rows_named_values_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_rows_named_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_rows_named_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_rows_named_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_rows_named_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_rows_named_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_rows_named_values_finite [hKernelIdeal : Cert.KernelIdeal.Facts] [hPre_rows_named_values_finite : Cert.Pre_rows_named_values_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_named_values_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_rows_named_values_finite [hReferenceIdeal : Cert.ReferenceIdeal.Facts] [hPre_rows_named_values_finite : Cert.Pre_rows_named_values_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named_values_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_rows_named_values_finite [hKernelIdeal : Cert.KernelIdeal.Facts] [hReferenceIdeal : Cert.ReferenceIdeal.Facts] [hPre_rows_named_values_finite : Cert.Pre_rows_named_values_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_named_values_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_rows_named : Cert.Pre_rows_named.Facts) (hPre_rows_named_values_finite : Cert.Pre_rows_named_values_finite.Facts),
    quiescent_Kernel (hKernel := hKernel) (hPre_rows_named := hPre_rows_named)
    ∧ quiescent_KernelIdeal (hKernelIdeal := hKernelIdeal) (hPre_rows_named := hPre_rows_named)
    ∧ quiescent_KernelIdeal_pre_rows_named_values_finite (hKernelIdeal := hKernelIdeal) (hPre_rows_named_values_finite := hPre_rows_named_values_finite)
    ∧ quiescent_ReferenceIdeal (hReferenceIdeal := hReferenceIdeal)
    ∧ quiescent_ReferenceIdeal_pre_rows_named_values_finite (hReferenceIdeal := hReferenceIdeal) (hPre_rows_named_values_finite := hPre_rows_named_values_finite)
    ∧ preserves_Kernel_KernelIdeal
    ∧ algebraic_KernelIdeal_ReferenceIdeal_pre_rows_named_values_finite (hKernelIdeal := hKernelIdeal) (hReferenceIdeal := hReferenceIdeal) (hPre_rows_named_values_finite := hPre_rows_named_values_finite)
-- ==== Pre_rows_named.lean ====
abbrev S1024x20 : Shape := ⟨2, ![1024, 20]⟩
abbrev S100000x64 : Shape := ⟨2, ![100000, 64]⟩
abbrev S128x64 : Shape := ⟨2, ![128, 64]⟩
abbrev S128 : Shape := ⟨1, ![128]⟩
abbrev S100000x128 : Shape := ⟨2, ![100000, 128]⟩
abbrev S100000 : Shape := ⟨1, ![100000]⟩
abbrev S_ : Shape := ⟨0, ![]⟩

class Facts : Prop where
  bcast_S_S1024x20 : S_.BroadcastsInDim S1024x20 (![] : Fin 0 → Fin S1024x20.rank)

variable [Facts]

def fn {F : FTy → Type} [FloatOps F] (main_arg0 : IVec S1024x20 32) (main_arg1 : FVec F S100000x64 .f32) (main_arg2 : FVec F S128x64 .f32) (main_arg3 : FVec F S128 .f32) (main_arg4 : FVec F S100000x128 .f32) (main_arg5 : FVec F S100000 .f32) : IVec S1024x20 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 100000#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  main_v4
-- ==== Pre_rows_named_values_finite.lean ====
abbrev S1024x20 : Shape := ⟨2, ![1024, 20]⟩
abbrev S100000x64 : Shape := ⟨2, ![100000, 64]⟩
abbrev S128x64 : Shape := ⟨2, ![128, 64]⟩
abbrev S128 : Shape := ⟨1, ![128]⟩
abbrev S100000x128 : Shape := ⟨2, ![100000, 128]⟩
abbrev S100000 : Shape := ⟨1, ![100000]⟩
abbrev S_ : Shape := ⟨0, ![]⟩

class Facts : Prop where
  bcast_S_S1024x20 : S_.BroadcastsInDim S1024x20 (![] : Fin 0 → Fin S1024x20.rank)
  bcast_S_S100000x64 : S_.BroadcastsInDim S100000x64 (![] : Fin 0 → Fin S100000x64.rank)
  bcast_S_S128x64 : S_.BroadcastsInDim S128x64 (![] : Fin 0 → Fin S128x64.rank)
  bcast_S_S128 : S_.BroadcastsInDim S128 (![] : Fin 0 → Fin S128.rank)
  bcast_S_S100000x128 : S_.BroadcastsInDim S100000x128 (![] : Fin 0 → Fin S100000x128.rank)
  bcast_S_S100000 : S_.BroadcastsInDim S100000 (![] : Fin 0 → Fin S100000.rank)

variable [Facts]

def fn_part1 {F : FTy → Type} [FloatOps F] (main_v4 : IVec S1024x20 1) (main_v7 : IVec S100000x64 1) (main_v10 : IVec S128x64 1) (main_v13 : IVec S128 1) (main_v16 : IVec S100000x128 1) (main_v17 : FVec F S100000 .f32) : IVec S1024x20 1 × IVec S100000x64 1 × IVec S128x64 1 × IVec S128 1 × IVec S100000x128 1 × IVec S100000 1 :=
  let main_cst_4 : FVec F S_ .f32 := constant S_ .f32 0x7F800000#32
  let main_v18 : FVec F S100000 .f32 := broadcastInDim S100000 ![] bcast_S_S100000 main_cst_4
  let main_v19 : IVec S100000 1 := cmpf .olt main_v17 main_v18
  (main_v4, main_v7, main_v10, main_v13, main_v16, main_v19)

def fn {F : FTy → Type} [FloatOps F] (main_arg0 : IVec S1024x20 32) (main_arg1 : FVec F S100000x64 .f32) (main_arg2 : FVec F S128x64 .f32) (main_arg3 : FVec F S128 .f32) (main_arg4 : FVec F S100000x128 .f32) (main_arg5 : FVec F S100000 .f32) : IVec S1024x20 1 × IVec S100000x64 1 × IVec S128x64 1 × IVec S128 1 × IVec S100000x128 1 × IVec S100000 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 100000#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  let main_v5 : FVec F S100000x64 .f32 := Host.absf main_arg1
  let main_cst : FVec F S_ .f32 := constant S_ .f32 0x7F800000#32
  let main_v6 : FVec F S100000x64 .f32 := broadcastInDim S100000x64 ![] bcast_S_S100000x64 main_cst
  let main_v7 : IVec S100000x64 1 := cmpf .olt main_v5 main_v6
  let main_v8 : FVec F S128x64 .f32 := Host.absf main_arg2
  let main_cst_1 : FVec F S_ .f32 := constant S_ .f32 0x7F800000#32
  let main_v9 : FVec F S128x64 .f32 := broadcastInDim S128x64 ![] bcast_S_S128x64 main_cst_1
  let main_v10 : IVec S128x64 1 := cmpf .olt main_v8 main_v9
  let main_v11 : FVec F S128 .f32 := Host.absf main_arg3
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_v14 : FVec F S100000x128 .f32 := Host.absf main_arg4
  let main_cst_3 : FVec F S_ .f32 := constant S_ .f32 0x7F800000#32
  let main_v15 : FVec F S100000x128 .f32 := broadcastInDim S100000x128 ![] bcast_S_S100000x128 main_cst_3
  let main_v16 : IVec S100000x128 1 := cmpf .olt main_v14 main_v15
  let main_v17 : FVec F S100000 .f32 := Host.absf main_arg5
  fn_part1 (F := F) main_v4 main_v7 main_v10 main_v13 main_v16 main_v17
-- ==== Kernel.lean ====
abbrev S1024x20 : Shape := ⟨2, ![1024, 20]⟩
abbrev S100000x64 : Shape := ⟨2, ![100000, 64]⟩
abbrev S128x64 : Shape := ⟨2, ![128, 64]⟩
abbrev S128 : Shape := ⟨1, ![128]⟩
abbrev S100000x128 : Shape := ⟨2, ![100000, 128]⟩
abbrev S100000 : Shape := ⟨1, ![100000]⟩
abbrev S20x1024 : Shape := ⟨2, ![20, 1024]⟩
abbrev S1x20480 : Shape := ⟨2, ![1, 20480]⟩
abbrev S_ : Shape := ⟨0, ![]⟩
abbrev S20480x128 : Shape := ⟨2, ![20480, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S50x1x2000 : Shape := ⟨3, ![50, 1, 2000]⟩
abbrev S1024x128 : Shape := ⟨2, ![1024, 128]⟩
abbrev S2000x128 : Shape := ⟨2, ![2000, 128]⟩
abbrev S1x1x2000 : Shape := ⟨3, ![1, 1, 2000]⟩
abbrev S1024x1 : Shape := ⟨2, ![1024, 1]⟩
abbrev S20x1024x128 : Shape := ⟨3, ![20, 1024, 128]⟩
abbrev S1024x2000 : Shape := ⟨2, ![1024, 2000]⟩
abbrev S1x2000 : Shape := ⟨2, ![1, 2000]⟩
abbrev S1024 : Shape := ⟨1, ![1024]⟩
abbrev S1024x50x1x2000 : Shape := ⟨4, ![1024, 50, 1, 2000]⟩
abbrev S1024x1x1x2000 : Shape := ⟨4, ![1024, 1, 1, 2000]⟩
abbrev S1024x100000 : Shape := ⟨2, ![1024, 100000]⟩

abbrev nBuf : Table → Nat
  | .hbm => 21
  | .local .tc .vmem => 20
  | .local .scVector .vmem => 2
  | _ => 0

abbrev bufTy : (tb : Table) → Fin (nBuf tb) → BufTy
  | .hbm, ⟨0, _⟩ => ⟨S1024x20, .i32⟩
  | .hbm, ⟨1, _⟩ => ⟨S100000x64, .f32⟩
  | .hbm, ⟨2, _⟩ => ⟨S128x64, .f32⟩
  | .hbm, ⟨3, _⟩ => ⟨S128, .f32⟩
  | .hbm, ⟨4, _⟩ => ⟨S100000x128, .f32⟩
  | .hbm, ⟨5, _⟩ => ⟨S100000, .f32⟩
  | .hbm, ⟨6, _⟩ => ⟨S20x1024, .i32⟩
  | .hbm, ⟨7, _⟩ => ⟨S1x20480, .i32⟩
  | .hbm, ⟨8, _⟩ => ⟨S_, .i32⟩
  | .hbm, ⟨9, _⟩ => ⟨S_, .f32⟩
  | .hbm, ⟨10, _⟩ => ⟨S100000x128, .f32⟩
  | .hbm, ⟨11, _⟩ => ⟨S20480x128, .f32⟩
  | .hbm, ⟨12, _⟩ => ⟨S_, .i32⟩
  | .hbm, ⟨13, _⟩ => ⟨S_, .f32⟩
  | .hbm, ⟨14, _⟩ => ⟨S128x128, .f32⟩
  | .hbm, ⟨15, _⟩ => ⟨S1x128, .f32⟩
  | .hbm, ⟨16, _⟩ => ⟨S50x1x2000, .f32⟩
  | .hbm, ⟨17, _⟩ => ⟨S1024x128, .bf16⟩
  | .hbm, ⟨18, _⟩ => ⟨S1024x128, .f32⟩
  | .hbm, ⟨19, _⟩ => ⟨S1024x50x1x2000, .f32⟩
  | .hbm, ⟨20, _⟩ => ⟨S1024x100000, .f32⟩
  | .local .tc .vmem, ⟨0, _⟩ => ⟨S20480x128, .f32⟩
  | .local .tc .vmem, ⟨1, _⟩ => ⟨S128x128, .f32⟩
  | .local .tc .vmem, ⟨2, _⟩ => ⟨S1x128, .f32⟩
  | .local .tc .vmem, ⟨3, _⟩ => ⟨S2000x128, .f32⟩
  | .local .tc .vmem, ⟨4, _⟩ => ⟨S2000x128, .f32⟩
  | .local .tc .vmem, ⟨5, _⟩ => ⟨S1x1x2000, .f32⟩
  | .local .tc .vmem, ⟨6, _⟩ => ⟨S1x1x2000, .f32⟩
  | .local .tc .vmem, ⟨7, _⟩ => ⟨S1024x128, .bf16⟩
  | .local .tc .vmem, ⟨8, _⟩ => ⟨S1024x128, .f32⟩
  | .local .tc .vmem, ⟨9, _⟩ => ⟨S1024x128, .bf16⟩
  | .local .tc .vmem, ⟨10, _⟩ => ⟨S1024x1, .f32⟩
  | .local .tc .vmem, ⟨11, _⟩ => ⟨S1024x1, .f32⟩
  | .local .tc .vmem, ⟨12, _⟩ => ⟨S1024x128, .bf16⟩
  | .local .tc .vmem, ⟨13, _⟩ => ⟨S1024x128, .f32⟩
  | .local .tc .vmem, ⟨14, _⟩ => ⟨S2000x128, .f32⟩
  | .local .tc .vmem, ⟨15, _⟩ => ⟨S2000x128, .f32⟩
  | .local .tc .vmem, ⟨16, _⟩ => ⟨S1x1x2000, .f32⟩
  | .local .tc .vmem, ⟨17, _⟩ => ⟨S1x1x2000, .f32⟩
  | .local .tc .vmem, ⟨18, _⟩ => ⟨S1024x1x1x2000, .f32⟩
  | .local .tc .vmem, ⟨19, _⟩ => ⟨S1024x1x1x2000, .f32⟩
  | .local .scVector .vmem, ⟨0, _⟩ => ⟨S2x1x128, .i32⟩
  | .local .scVector .vmem, ⟨1, _⟩ => ⟨S2x128x128, .f32⟩
  | _, _ => ⟨S1024x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev main_v9 : Ref sig .tc := ⟨.hbm, 20, rfl⟩
abbrev main_v2_scv : Ref sig .scVector := ⟨.hbm, 10, rfl⟩
abbrev main_v1_scv : Ref sig .scVector := ⟨.hbm, 7, rfl⟩
abbrev main_v3_scv : Ref sig .scVector := ⟨.hbm, 11, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc1_stg6_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c5_i32_27_r0 : BitVec 32 := 5#32
  let v32_r0 : BitVec 32 := Scalar.addi c0_i32_26_r0 c5_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c5_i32_62_r0 : BitVec 32 := 5#32
  let v74_r0 : BitVec 1 := Scalar.cmpi .eq v73_r0 c5_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c4_i32_68_r0 : BitVec 32 := 4#32
  let v83_r0 : BitVec 1 := Scalar.cmpi .sge arg5_r0 c4_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c5_i32_62_r0 : BitVec 32 := 5#32
  let v74_r0 : BitVec 1 := Scalar.cmpi .eq v73_r0 c5_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c4_i32_59_r0 : BitVec 32 := 4#32
  let v70_r0 : BitVec 32 := Scalar.select v69_r0 c4_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c5_i32_62_r0 : BitVec 32 := 5#32
  let v74_r0 : BitVec 1 := Scalar.cmpi .eq v73_r0 c5_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c4_i32_55_r0 : BitVec 32 := 4#32
  let v65_r0 : BitVec 1 := Scalar.cmpi .eq arg5_r0 c4_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c4_i32_59_r0 : BitVec 32 := 4#32
  let v70_r0 : BitVec 32 := Scalar.select v69_r0 c4_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c4_i32_59_r0 : BitVec 32 := 4#32
  let v70_r0 : BitVec 32 := Scalar.select v69_r0 c4_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x20480.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x20480.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S20480x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S20480x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x20480.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x20480.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S20480x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S20480x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c4_i32_33_r0 : BitVec 32 := 4#32
  let v37_r0 : BitVec 32 := Scalar.select v36_r0 c4_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S20480x128.size a)
theorem k0_off19_inb : ∀ (i : grid0.Coords) (v33_4_r0 : BitVec 32) (k0_hw5 : k0_chk5 i v33_4_r0), ∀ a, (k0_off19 i v33_4_r0) a + S128x128.size a ≤ S20480x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v33 : BitVec 1 := Scalar.cmpi .eq arg0 c49_i32
  let v34 : BitVec 32 := Scalar.extui v33
  let c0_i32_19 : BitVec 32 := 0#32
  let v35 : BitVec 1 := Scalar.cmpi .ne v34 c0_i32_19
  v35

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S20480x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x2000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage2_0 : Fin 1 → Memref sig .tc .vmem S1024x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x2000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x1x1x2000 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x20 : Shape := ⟨2, ![1024, 20]⟩
abbrev S100000x64 : Shape := ⟨2, ![100000, 64]⟩
abbrev S128x64 : Shape := ⟨2, ![128, 64]⟩
abbrev S128 : Shape := ⟨1, ![128]⟩
abbrev S100000x128 : Shape := ⟨2, ![100000, 128]⟩
abbrev S100000 : Shape := ⟨1, ![100000]⟩
abbrev S_ : Shape := ⟨0, ![]⟩
abbrev S1024x20x1 : Shape := ⟨3, ![1024, 20, 1]⟩
abbrev S1 : Shape := ⟨1, ![1]⟩
abbrev S1x1x1 : Shape := ⟨3, ![1, 1, 1]⟩
abbrev S1024x20x64 : Shape := ⟨3, ![1024, 20, 64]⟩
abbrev S1024x64 : Shape := ⟨2, ![1024, 64]⟩
abbrev S64x128 : Shape := ⟨2, ![64, 128]⟩
abbrev S1024x128 : Shape := ⟨2, ![1024, 128]⟩
abbrev S1x128 : Shape := ⟨2, ![1, 128]⟩
abbrev S128x100000 : Shape := ⟨2, ![128, 100000]⟩
abbrev S1024x100000 : Shape := ⟨2, ![1024, 100000]⟩
abbrev S1x100000 : Shape := ⟨2, ![1, 100000]⟩
abbrev S1024 : Shape := ⟨1, ![1024]⟩
abbrev S1024x1 : Shape := ⟨2, ![1024, 1]⟩

abbrev nBuf : Space → Nat
  | .hbm => 59
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S100000x64, .f32⟩
  | .hbm, ⟨2, _⟩ => ⟨S128x64, .f32⟩
  | .hbm, ⟨3, _⟩ => ⟨S128, .f32⟩
  | .hbm, ⟨4, _⟩ => ⟨S100000x128, .f32⟩
  | .hbm, ⟨5, _⟩ => ⟨S100000, .f32⟩
  | .hbm, ⟨6, _⟩ => ⟨S_, .i32⟩
  | .hbm, ⟨7, _⟩ => ⟨S1024x20, .i32⟩
  | .hbm, ⟨8, _⟩ => ⟨S1024x20, .i1⟩
  | .hbm, ⟨9, _⟩ => ⟨S_, .i32⟩
  | .hbm, ⟨10, _⟩ => ⟨S1024x20, .i32⟩
  | .hbm, ⟨11, _⟩ => ⟨S1024x20, .i32⟩
  | .hbm, ⟨12, _⟩ => ⟨S1024x20, .i32⟩
  | .hbm, ⟨13, _⟩ => ⟨S1024x20x1, .i32⟩
  | .hbm, ⟨14, _⟩ => ⟨S1, .i32⟩
  | .hbm, ⟨15, _⟩ => ⟨S_, .i32⟩
  | .hbm, ⟨16, _⟩ => ⟨S1024x20x1, .i32⟩
  | .hbm, ⟨17, _⟩ => ⟨S1024x20x1, .i1⟩
  | .hbm, ⟨18, _⟩ => ⟨S1x1x1, .i32⟩
  | .hbm, ⟨19, _⟩ => ⟨S1024x20x1, .i32⟩
  | .hbm, ⟨20, _⟩ => ⟨S1024x20x1, .i1⟩
  | .hbm, ⟨21, _⟩ => ⟨S1024x20x1, .i1⟩
  | .hbm, ⟨22, _⟩ => ⟨S_, .i1⟩
  | .hbm, ⟨23, _⟩ => ⟨S1024x20, .i1⟩
  | .hbm, ⟨24, _⟩ => ⟨S1024x20x64, .f32⟩
  | .hbm, ⟨25, _⟩ => ⟨S1024x20x64, .i1⟩
  | .hbm, ⟨26, _⟩ => ⟨S_, .f32⟩
  | .hbm, ⟨27, _⟩ => ⟨S1024x20x64, .f32⟩
  | .hbm, ⟨28, _⟩ => ⟨S1024x20x64, .f32⟩
  | .hbm, ⟨29, _⟩ => ⟨S_, .f32⟩
  | .hbm, ⟨30, _⟩ => ⟨S1024x64, .f32⟩
  | .hbm, ⟨31, _⟩ => ⟨S64x128, .f32⟩
  | .hbm, ⟨32, _⟩ => ⟨S1024x128, .f32⟩
  | .hbm, ⟨33, _⟩ => ⟨S1x128, .f32⟩
  | .hbm, ⟨34, _⟩ => ⟨S1024x128, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | .hbm, ⟨39, _⟩ => ⟨S128x100000, .f32⟩
  | .hbm, ⟨40, _⟩ => ⟨S1024x100000, .f32⟩
  | .hbm, ⟨41, _⟩ => ⟨S1x100000, .f32⟩
  | .hbm, ⟨42, _⟩ => ⟨S1024x100000, .f32⟩
  | .hbm, ⟨43, _⟩ => ⟨S1024x100000, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024x1, .f32⟩
  | .hbm, ⟨50, _⟩ => ⟨S1024x100000, .f32⟩
  | .hbm, ⟨51, _⟩ => ⟨S1024x100000, .f32⟩
  | .hbm, ⟨52, _⟩ => ⟨S1024x100000, .f32⟩
  | .hbm, ⟨53, _⟩ => ⟨S_, .f32⟩
  | .hbm, ⟨54, _⟩ => ⟨S1024, .f32⟩
  | .hbm, ⟨55, _⟩ => ⟨S1024x1, .f32⟩
  | .hbm, ⟨56, _⟩ => ⟨S1024x1, .f32⟩
  | .hbm, ⟨57, _⟩ => ⟨S1024x100000, .f32⟩
  | .hbm, ⟨58, _⟩ => ⟨S1024x100000, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_call1_cst : Ref sig .tc := ⟨.hbm, 44, rfl⟩
abbrev main_call1_v0 : Ref sig .tc := ⟨.hbm, 45, rfl⟩
abbrev main_call1_cst_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_cst_1 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_v14 : Ref sig .tc := ⟨.hbm, 58, rfl⟩

abbrev nD : Nat := 1
abbrev τ : Topo := Topo.v7x

variable {F : FTy → Type} [FloatOps F]
-- ==== Proof.Words.lean ====
/-
  The words of the gather's pipeline, in closed form. A tile's five trips carry five words: the slot of the next index
  block to fetch, the slot of the index block to read, the slot of the rows being gathered, the slot of the rows being
  written out, and the number of the tile's current block. Here each of them is a plain number of the trip, and each
  offset, condition and side condition the trip computes from them is stated as one.
-/
module

public import proofs.«01_k».proof.Defs
public import proofs.«01_k».proof.Proof.Gen.KernelIdeal
public import proofs.«01_k».proof.Proof.Gen.KernelIdeal.Skeleton

@[expose] public section

set_option maxRecDepth 16384

noncomputable section

namespace Cert.Proof.Gather

open Cert.KernelIdeal Cert.KernelIdeal.Gen
open Idealize.ShloMosaic

/-- The loop makes five trips. -/
theorem trips_eq : k0_t1_loop.trips = 5 := by decide

/-- The five words at the start of trip `k`: `k + 1` blocks asked for (five at most), `k` read, `k` gathered, `k - 1`
    written out, and block `k` of five (block `0` again after the last). -/
def acc (k : ℕ) : BitVec 32 × BitVec 32 × BitVec 32 × BitVec 32 × BitVec 32 :=
  (BitVec.ofNat 32 (min (k + 1) 5), BitVec.ofNat 32 k, BitVec.ofNat 32 k, BitVec.ofNat 32 (k - 1), BitVec.ofNat 32 (k % 5))

/-- The first of a tile's five block numbers, as the body computes it from the tile's two coordinates. -/
def base (i : grid0.Coords) : BitVec 32 :=
  Scalar.muli (Scalar.addi (Scalar.addi 0#32 (Scalar.muli (BitVec.ofNat 32 (i 1).val) 1#32)) (Scalar.muli (BitVec.ofNat 32 (i 0).val) 16#32)) 5#32

/-- The number of a tile's first block. -/
def first (i : grid0.Coords) : ℕ := 5 * (i 1).val + 80 * (i 0).val

/-- A tile's five blocks are among the 160. -/
theorem first_le : ∀ i : grid0.Coords, first i + 5 ≤ 160 := by decide +kernel

/-- The slot that trip `t` fetches into, -/
theorem off4_eq : ∀ t : Fin k0_t1_loop.trips, k0_off4 (acc t.val).1 = ![min (t.val + 1) 5 % 2, 0, 0] := by decide +kernel
/-- its semaphore, -/
theorem off6_eq : ∀ t : Fin k0_t1_loop.trips, k0_off6 (acc t.val).1 = ![min (t.val + 1) 5 % 2] := by decide +kernel
/-- and the block of the list that it fetches. -/
theorem off5_eq : ∀ (i : grid0.Coords) (t : Fin k0_t1_loop.trips), t.val < 4 →
    k0_off5 i (acc t.val).2.2.2.2 = ![0, 128 * (first i + (t.val + 1))] := by decide +kernel
/-- The slot whose fetch trip `t` waits for -/
theorem off7_eq : ∀ t : Fin k0_t1_loop.trips, k0_off7 (acc t.val).2.1 = ![t.val % 2, 0, 0] := by decide +kernel
/-- and its semaphore. -/
theorem off9_eq : ∀ t : Fin k0_t1_loop.trips, k0_off9 (acc t.val).2.1 = ![t.val % 2] := by decide +kernel
/-- The slot that trip `t` gathers into, -/
theorem off10_eq : ∀ t : Fin k0_t1_loop.trips, k0_off10 (acc t.val).2.2.1 = ![t.val % 2, 0, 0] := by decide +kernel
/-- the slot that holds its list, -/
theorem off11_eq : ∀ t : Fin k0_t1_loop.trips, k0_off11 (acc t.val).2.1 = ![t.val % 2, 0, 0] := by decide +kernel
/-- the slot that it sends out, -/
theorem off12_eq : ∀ t : Fin k0_t1_loop.trips, k0_off12 (acc t.val).2.2.1 = ![t.val % 2, 0, 0] := by decide +kernel
/-- the semaphore of that -/
theorem off14_eq : ∀ t : Fin k0_t1_loop.trips, k0_off14 (acc t.val).2.2.1 = ![t.val % 2] := by decide +kernel
/-- and the block of the result that it sends to. -/
theorem off13_eq : ∀ (i : grid0.Coords) (t : Fin k0_t1_loop.trips),
    k0_off13 i (acc t.val).2.2.2.2 = ![128 * (first i + t.val), 0] := by decide +kernel
/-- The slot whose write-out trip `t` waits for -/
theorem off15_eq : ∀ t : Fin k0_t1_loop.trips, k0_off15 (acc t.val).2.2.2.1 = ![(t.val - 1) % 2, 0, 0] := by decide +kernel
/-- and its semaphore. -/
theorem off17_eq : ∀ t : Fin k0_t1_loop.trips, k0_off17 (acc t.val).2.2.2.1 = ![(t.val - 1) % 2] := by decide +kernel
/-- The semaphore that is waited for after the loop. -/
theorem off20_eq : k0_off20 (acc 5).2.2.2.1 = ![0] := by decide +kernel

/-- Every trip but the last fetches, -/
theorem cond1_iff : ∀ (i : grid0.Coords) (t : Fin k0_t1_loop.trips), k0_cond1 i t (acc t.val).2.2.2.2 = 1#1 ↔ t.val < 4 := by decide +kernel
/-- every trip waits for its list -/
theorem cond2_eq : ∀ (i : grid0.Coords) (t : Fin k0_t1_loop.trips), k0_cond2 i t (acc t.val).2.2.2.2 = 1#1 := by decide +kernel
/-- and sends its rows out, -/
theorem cond5_eq : ∀ (i : grid0.Coords) (t : Fin k0_t1_loop.trips), k0_cond5 i t (acc t.val).2.2.2.2 = 1#1 := by decide +kernel
/-- and every trip but the first waits for the last one's rows. -/
theorem cond7_iff : ∀ (i : grid0.Coords) (t : Fin k0_t1_loop.trips), k0_cond7 i t (acc t.val).2.2.2.2 = 1#1 ↔ 0 < t.val := by decide +kernel

/-- The body's checks of its offsets hold: those of a trip's copies and waits, -/
theorem chk1 : ∀ (i : grid0.Coords) (t : Fin k0_t1_loop.trips),
    k0_chk1 i t (acc t.val).1 (acc t.val).2.1 (acc t.val).2.2.1 (acc t.val).2.2.2.1 (acc t.val).2.2.2.2 := by decide +kernel
/-- of the slot that it gathers into, -/
theorem chk2 : ∀ t : Fin k0_t1_loop.trips, k0_chk2 (acc t.val).2.2.1 := by decide +kernel
/-- of the slot that holds its list, -/
theorem chk3 : ∀ t : Fin k0_t1_loop.trips, k0_chk3 (acc t.val).2.1 := by decide +kernel
/-- and after the loop those of the slot -/
theorem chk4 : k0_chk4 (acc 5).2.2.2.1 := by decide +kernel
/-- and of the block. -/
theorem chk5 : ∀ i : grid0.Coords, k0_chk5 i (acc 5).2.2.2.2 := by decide +kernel

end Cert.Proof.Gather

end
-- ==== Proof.Windows.lean ====
/-
  The windows of the gather: the two slots of a tile's index scratch and of its row scratch, the blocks of the index
  list and of the output, and the tile's five transfers as single steps over them — fetch a block of indices, wait for
  it, gather the rows it names, send the rows to the output, wait for them. Each step carries what the memory holds:
  a fetched slot reads as its block of the list, a gathered slot reads as its block of the gathered array.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ViewIndex

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds, the pipelines' rounds, the transfers' counters -/

/-- Ghost state of the handshakes, -/
abbrev UH : Type := URounds (GSem nD τ sig) ℕ
/-- of the pipelines, -/
abbrev UP : Type := URounds (GSem nD τ sig) Unit
/-- and all of it. -/
abbrev UU : Type := UH × (UP × Counters)

local notation "𝕄" => MT nD τ sig (HIx 1) (Elt F) ℕ UU ℕ

/-- No loop takes a variant. -/
abbrev 𝒱₀ : Variants := Variants.none

/-! ## What the gather computes -/

/-- The index with the two coordinates given. -/
def at2 {d : Fin 2 → ℕ} (a : Fin (d 0)) (b : Fin (d 1)) : (⟨2, d⟩ : Shape).Idx := fun | 0 => a | 1 => b

/-- The gathered array: its row `r` is the row of the table `T` that entry `r` of the list `X` names. -/
def gathered (T : S100000x128.Idx → Elt F .f32) (X : S1x20480.Idx → Elt F .i32) : S20480x128.Idx → Elt F .f32 := fun x =>
  T (at2 (d := ![100000, 128]) ⟨BitVec.toNat (X (at2 (d := ![1, 20480]) ⟨0, by decide⟩ (x 0))) % 100000, Nat.mod_lt _ (by omega)⟩ (x 1))

/-! ## The windows -/

/-- The list's scratch, -/
abbrev sI : Memref sig .scVector .vmem S2x1x128 .i32 := Memref.whole cc0_scoped0
/-- the rows' scratch, -/
abbrev sR : Memref sig .scVector .vmem S2x128x128 .f32 := Memref.whole cc0_scoped2
/-- the widened table, -/
abbrev tV : Memref sig .scVector .hbm S100000x128 .f32 := Memref.whole main_v2_scv
/-- the list -/
abbrev xV : Memref sig .scVector .hbm S1x20480 .i32 := Memref.whole main_v1_scv
/-- and the result, each whole. -/
abbrev oV : Memref sig .scVector .hbm S20480x128 .f32 := Memref.whole main_v3_scv

/-- A slot lies within the list's scratch, -/
theorem inbI (s : Fin 2) : ∀ a, (![s.val, 0, 0] : Fin 3 → ℕ) a + S1x1x128.size a ≤ S2x1x128.size a := by revert s; decide
/-- a slot within the rows', -/
theorem inbR (s : Fin 2) : ∀ a, (![s.val, 0, 0] : Fin 3 → ℕ) a + S1x128x128.size a ≤ S2x128x128.size a := by revert s; decide
/-- a block within the list -/
theorem inbX (n : Fin 160) : ∀ a, (![0, 128 * n.val] : Fin 2 → ℕ) a + S1x128.size a ≤ S1x20480.size a := by revert n; decide +kernel
/-- and a block within the result. -/
theorem inbO (n : Fin 160) : ∀ a, (![128 * n.val, 0] : Fin 2 → ℕ) a + S128x128.size a ≤ S20480x128.size a := by revert n; decide +kernel

/-- Slot `s` of the index scratch. -/
abbrev IW (s : Fin 2) : Memref sig .scVector .vmem S1x128 .i32 :=
  (sI.slice (Rect.unit (s := S2x1x128) ![s.val, 0, 0] S1x1x128.size (inbI s)) (fun _ => rfl)).squeeze S1x128 squeezes_S1x1x128_S1x128
/-- Slot `s` of the row scratch. -/
abbrev RW (s : Fin 2) : Memref sig .scVector .vmem S128x128 .f32 :=
  (sR.slice (Rect.unit (s := S2x128x128) ![s.val, 0, 0] S1x128x128.size (inbR s)) (fun _ => rfl)).squeeze S128x128 squeezes_S1x128x128_S128x128
/-- Block `n` of the list: 128 entries. -/
abbrev XW (n : Fin 160) : Memref sig .scVector .hbm S1x128 .i32 :=
  xV.slice (Rect.unit (s := S1x20480) ![0, 128 * n.val] S1x128.size (inbX n)) (fun _ => rfl)
/-- Block `n` of the output: 128 rows. -/
abbrev OW (n : Fin 160) : Memref sig .scVector .hbm S128x128 .f32 :=
  oV.slice (Rect.unit (s := S20480x128) ![128 * n.val, 0] S128x128.size (inbO n)) (fun _ => rfl)
/-- The table, as the gather addresses it. -/
abbrev TW : Memref sig .scVector .hbm S100000x128 .f32 :=
  tV.slice (Rect.unit (s := S100000x128) ![0, 0] S100000x128.size inb_S100000x128_S100000x128_0_0) (fun _ => rfl)
/-- Slot `s` of the index scratch as a list of 128 offsets. -/
abbrev LW (s : Fin 2) : Memref sig .scVector .vmem S128 .i32 :=
  ((IW s).slice (Rect.unit (s := S1x128) ![0, 0] S1x128.size inb_S1x128_S1x128_0_0) (fun _ => rfl)).squeeze S128 squeezes_S1x128_S128

/-- The semaphore of the fetches into slot `s`. -/
def semI (s : Fin 2) : DmaSem sig := ⟨s.val, Nat.lt_of_lt_of_le s.isLt (by decide)⟩
/-- The semaphore of the write-outs from slot `s`. -/
def semO (s : Fin 2) : DmaSem sig := ⟨2 + s.val, Nat.lt_of_lt_of_le (Nat.add_lt_add_left s.isLt 2) (by decide)⟩

/-- The body's semaphore of a fetch is its slot's, -/
theorem semI_eq (s : Fin 2) {o : Fin 1 → ℕ} (h : o = ![s.val]) (i : ∀ a, o a + S1.size a ≤ S2.size a) :
    ((cc0_scoped1.slice (Rect.unit (s := S2) o S1.size i)).squeeze S_ squeezes_S1_S_).sem = semI s := by
  subst h; revert s; decide
/-- and that of a write-out. -/
theorem semO_eq (s : Fin 2) {o : Fin 1 → ℕ} (h : o = ![s.val]) (i : ∀ a, o a + S1.size a ≤ S2.size a) :
    ((cc0_scoped3.slice (Rect.unit (s := S2) o S1.size i)).squeeze S_ squeezes_S1_S_).sem = semO s := by
  subst h; revert s; decide

section Tile

variable (d : Dev nD) (L : grid0.Coords)

/-- The SparseCore -/
abbrev cV (L : grid0.Coords) : Fin τ.nSC := (L 0).castLE hcore0
/-- and the number in it of the tile at coordinates `L`. -/
abbrev jV (L : grid0.Coords) : Fin τ.nSub := (L 1).castLE hsub0
/-- The tile at coordinates `L`. -/
abbrev thr (d : Dev nD) (L : grid0.Coords) : Thread nD τ := V d (cV L) (jV L)

/-- Slot `s` of the list's scratch at `f`, -/
abbrev slotI (s : Fin 2) (f : Buf (Elt F) ((IW s).view.loc (thr d L))) : sProp 𝕄 := (IW s).view.loc (thr d L) ↦[(IW s).view.set]{fullShare} f
/-- slot `s` of the rows' scratch, -/
abbrev slotR (s : Fin 2) (f : Buf (Elt F) ((RW s).view.loc (thr d L))) : sProp 𝕄 := (RW s).view.loc (thr d L) ↦[(RW s).view.set]{fullShare} f
/-- block `n` of the list -/
abbrev xBlk (n : Fin 160) (X : Buf (Elt F) ((XW n).view.loc (thr d L))) : sProp 𝕄 := (XW n).view.loc (thr d L) ↦[(XW n).view.set]{fullShare} X
/-- and block `n` of the result. -/
abbrev oBlk (n : Fin 160) (f : Buf (Elt F) ((OW n).view.loc (thr d L))) : sProp 𝕄 := (OW n).view.loc (thr d L) ↦[(OW n).view.set]{fullShare} f

variable (T : S100000x128.Idx → Elt F .f32) (X : S1x20480.Idx → Elt F .i32)

/-- Slot `s` holding block `n` of the list. -/
abbrev listed (s : Fin 2) (n : Fin 160) : sProp 𝕄 :=
  iprop(∃ g : Buf (Elt F) ((IW s).view.loc (thr d L)), ⌜(IW s).view.read (Elt F) g = (XW n).view.read (Elt F) X⌝ ∗ slotI d L s g)
/-- Slot `s` holding block `n` of the gathered array. -/
abbrev rowed (s : Fin 2) (n : Fin 160) : sProp 𝕄 :=
  iprop(∃ g : Buf (Elt F) ((RW s).view.loc (thr d L)), ⌜(RW s).view.read (Elt F) g = (OW n).view.read (Elt F) (gathered T X)⌝ ∗ slotR d L s g)

/-- A fetch of block `n` into slot `s`, outstanding. -/
abbrev fetching (s : Fin 2) (n : Fin 160) : sProp 𝕄 :=
  Transfers.Flight countersEmb (thr d L) (.dma (semI s)) (default : HIx 1) (IW 0).view.dmaCredit
    iprop(listed d L X s n ∗ xBlk d L n X)
/-- A write-out of block `n` from slot `s`, outstanding. -/
abbrev sending (s : Fin 2) (n : Fin 160) : sProp 𝕄 :=
  Transfers.Flight countersEmb (thr d L) (.dma (semO s)) (default : HIx 1) (OW 0).view.dmaCredit
    iprop(oBlk d L n (gathered T X) ∗ ∃ f, slotR d L s f)

variable [FloatOps F] {α : Type} {Q : α → sProp (MT nD τ sig (HIx 1) (Elt F) ℕ UU ℕ)}

/-- Issue the fetch of block `n` into slot `s`. -/
theorem wp_fetch (s : Fin 2) (n : Fin 160)
    {o4 : Fin 3 → ℕ} (h4 : o4 = ![s.val, 0, 0]) (i4 : ∀ a, o4 a + S1x1x128.size a ≤ S2x1x128.size a)
    {o5 : Fin 2 → ℕ} (h5 : o5 = ![0, 128 * n.val]) (i5 : ∀ a, o5 a + S1x128.size a ≤ S1x20480.size a)
    {o6 : Fin 1 → ℕ} (h6 : o6 = ![s.val]) (i6 : ∀ a, o6 a + S1.size a ≤ S2.size a)
    {e1 : (xV.slice (Rect.unit (s := S1x20480) o5 S1x128.size i5) (fun _ => rfl)).view.WordExact}
    {e2 : ((sI.slice (Rect.unit (s := S2x1x128) o4 S1x1x128.size i4) (fun _ => rfl)).squeeze S1x128 squeezes_S1x1x128_S1x128).view.WordExact}
    {e3} (k : PUnit → Prog (TpuEff nD τ sig (Elt F) Λ₀ (thr d L).2) α) :
    iprop((∃ f, slotI d L s f) ∗ xBlk d L n X ∗ semVal (thr d L, SemLoc.dma (semI s)) 0)
      ⊢ iprop((fetching d L X s n -∗ wp frame (wpE (defs₀ (F := F)) 𝒱₀ (thr d L) none) Set.univ (k ⟨⟩) Q)
          -∗ wp frame (wpE (defs₀ (F := F)) 𝒱₀ (thr d L) none) Set.univ
            (.op (.enqueueDma (xV.slice (Rect.unit (s := S1x20480) o5 S1x128.size i5) (fun _ => rfl))
              (.here ((sI.slice (Rect.unit (s := S2x1x128) o4 S1x1x128.size i4) (fun _ => rfl)).squeeze S1x128 squeezes_S1x1x128_S1x128))
              (.dma ((cc0_scoped1.slice (Rect.unit (s := S2) o6 S1.size i6)).squeeze S_ squeezes_S1_S_).sem) e1 e2 e3) k) Q) := by
  have hsem := semI_eq s h6 i6
  subst h4 h5
  generalize ((cc0_scoped1.slice (Rect.unit (s := S2) o6 S1.size i6)).squeeze S_ squeezes_S1_S_).sem = w at *
  subst hsem
  iintro ⟨⟨%f, Hs⟩, Hx, Hv⟩ Hk
  iapply (Transfers.wp_dmaLocal countersEmb 𝒱₀ (thr d L) none (src := XW n) (dst := IW s) (via := .same) (Sd := (IW s).view.set)
    (hsrc := e1) (hdst := e2) (hsem := e3) (k := k) (Q := Q) (q := fullShare) (fs := X) (fd := f) (default : HIx 1) (IW 0).view.dmaCredit rfl (by decide) (Finset.Subset.refl _)) $$ [Hs Hx Hv]
  · isplitl [Hx]; · iexact Hx
    isplitl [Hs]; · iexact Hs
    iexact Hv
  iintro Hfl
  iapply Hk
  iapply (Transfers.Flight_mono countersEmb (thr d L) ?_) $$ Hfl
  iintro ⟨Hs, Hx⟩
  isplitl [Hs]
  · iexists _; isplitr
    swap; · iexact Hs
    ipureintro; exact View.read_write_univ _ _
  · iexact Hx

/-- Wait for the fetch into slot `s`. -/
theorem wp_fetched (s : Fin 2) (n : Fin 160) (O : CellTallies nD τ sig (HIx 1)) (W : Waits sig (HIx 1))
    {o4 : Fin 3 → ℕ} (i4 : ∀ a, o4 a + S1x1x128.size a ≤ S2x1x128.size a)
    {o5 : Fin 2 → ℕ} (i5 : ∀ a, o5 a + S1x128.size a ≤ S1x20480.size a)
    {o6 : Fin 1 → ℕ} (h6 : o6 = ![s.val]) (i6 : ∀ a, o6 a + S1.size a ≤ S2.size a)
    {e1 : (xV.slice (Rect.unit (s := S1x20480) o5 S1x128.size i5) (fun _ => rfl)).view.WordExact}
    {e2 : ((sI.slice (Rect.unit (s := S2x1x128) o4 S1x1x128.size i4) (fun _ => rfl)).squeeze S1x128 squeezes_S1x1x128_S1x128).view.WordExact}
    (k : PUnit → Prog (TpuEff nD τ sig (Elt F) Λ₀ (thr d L).2) α) :
    iprop(fetching d L X s n ∗ owes (thr d L) O W ∗ Transfers.MayWaits (thr d L) (default : HIx 1) O)
      ⊢ iprop((iprop((listed d L X s n ∗ xBlk d L n X) ∗ semVal (thr d L, SemLoc.dma (semI s)) 0
                ∗ owes (thr d L) O (insert (SemLoc.dma (semI s), (default : HIx 1)) W))
              -∗ wp frame (wpE (defs₀ (F := F)) 𝒱₀ (thr d L) none) Set.univ (k ⟨⟩) Q)
          -∗ wp frame (wpE (defs₀ (F := F)) 𝒱₀ (thr d L) none) Set.univ
            (.op (.waitDma2 ((cc0_scoped1.slice (Rect.unit (s := S2) o6 S1.size i6)).squeeze S_ squeezes_S1_S_).sem
              (xV.slice (Rect.unit (s := S1x20480) o5 S1x128.size i5) (fun _ => rfl))
              ((sI.slice (Rect.unit (s := S2x1x128) o4 S1x1x128.size i4) (fun _ => rfl)).squeeze S1x128 squeezes_S1x1x128_S1x128) e1 e2) k) Q) := by
  have hsem := semI_eq s h6 i6
  generalize ((cc0_scoped1.slice (Rect.unit (s := S2) o6 S1.size i6)).squeeze S_ squeezes_S1_S_).sem = w at *
  subst hsem
  iintro ⟨Hfl, HO, Hmw⟩ Hk
  iapply (Transfers.wp_waitLocalO countersEmb 𝒱₀ (thr d L) none (hsrc := e1) (hdst := e2) (k := k) (Q := Q) (default : HIx 1) (N := (IW 0).view.dmaCredit) rfl) $$ [Hfl HO Hmw]
  · isplitl [Hfl]; · iexact Hfl
    isplitl [HO]; · iexact HO
    iapply (Transfers.MayWaits.elim (SemLoc.dma (semI s))) $$ Hmw
  iexact Hk

/-! ### The gather of one block -/

/-- Slot `s` read as a list of offsets: entry `j` of the list is entry `(0, j)` of the slot. -/
theorem read_LW (s : Fin 2) (g : Buf (Elt F) ((IW s).view.loc (thr d L))) (j : S128.Idx) :
    (LW s).view.read (Elt F) g j = (IW s).view.read (Elt F) g (at2 (d := ![1, 128]) ⟨0, by decide⟩ (j 0)) := by
  have h : Shape.reshapeEquiv (squeezes_S1x128_S128).numel_eq j = (at2 (d := ![1, 128]) ⟨0, by decide⟩ (j 0) : S1x128.Idx) := by
    refine Shape.reshapeEquiv_eq_of_rowMajor _ ?_
    rw [Shape.rowMajor_val_two, Shape.rowMajor_val_one]
    change 0 * 128 + (j 0).val = (j 0).val
    omega
  change (IW s).view.read (Elt F) g ((Rect.unit (s := S1x128) ![0, 0] S1x128.size inb_S1x128_S1x128_0_0).emb
    (Shape.reshapeEquiv (squeezes_S1x128_S128).numel_eq j)) = _
  rw [h]
  congr 1
  funext a; refine Fin.ext ?_
  rw [Rect.emb_apply]
  fin_cases a <;> simp [Rect.unit, at2]

/-- A list names as many rows as a block has. -/
theorem numel_list : S128.numel = S128x128.size (gathers_S100000x128_S128x128).axis' := rfl

/-- What the gather lays in a slot, when the offsets are block `n` of the list: block `n` of the gathered array. -/
theorem payload_eq (n : Fin 160) (fo : S128.Idx → Elt F .i32)
    (hfo : ∀ j, fo j = X ((XW n).view.emb (at2 (d := ![1, 128]) ⟨0, by decide⟩ (j 0))))
    (hin : ∀ x, (fo x).toNat < S100000x128.size (gathers_S100000x128_S128x128).axis) :
    SparseCore.gatherPayload gathers_S100000x128_S128x128 (TW.view.read (Elt F) T) (SparseCore.rows fo numel_list hin)
      = (OW n).view.read (Elt F) (gathered T X) := by
  funext x
  have hrow : (S128.rowMajor.symm (((x 0).cast rfl : Fin S128.numel))) = (fun | 0 => x 0 : S128.Idx) := by
    rw [Equiv.symm_apply_eq]; refine Fin.ext ?_
    rw [Shape.rowMajor_val_one]; rfl
  change T _ = T _
  congr 1
  funext a; refine Fin.ext ?_
  match a with
  | 0 =>
    change 0 + 1 * (gathers_S100000x128_S128x128.idx (SparseCore.rows fo numel_list hin) x (gathers_S100000x128_S128x128).axis).val
      = BitVec.toNat (X (at2 (d := ![1, 20480]) ⟨0, by decide⟩ ((OW n).view.emb x 0))) % 100000
    rw [Shape.Gathers.idx_axis]
    change 0 + 1 * BitVec.toNat (fo (S128.rowMajor.symm (((x 0).cast rfl : Fin S128.numel)))) = _
    rw [hrow]
    have hx : X (at2 (d := ![1, 20480]) ⟨0, by decide⟩ ((OW n).view.emb x 0)) = fo (fun | 0 => x 0) := by
      rw [hfo]; congr 1
      funext b; refine Fin.ext ?_
      match b with
      | 0 => rfl
      | 1 => rfl
    rw [hx]
    have := hin (fun | 0 => x 0)
    have h100 : S100000x128.size (gathers_S100000x128_S128x128).axis = 100000 := rfl
    rw [h100] at this
    rw [Nat.mod_eq_of_lt this]; omega
  | 1 =>
    change 0 + 1 * (gathers_S100000x128_S128x128.idx (SparseCore.rows fo numel_list hin) x (1 : Fin 2)).val = 0 + 1 * (x 1).val
    rw [Shape.Gathers.idx_of_ne gathers_S100000x128_S128x128 (SparseCore.rows fo numel_list hin) x (1 : Fin S100000x128.rank) (by decide)]
    rfl

/-- The credit of a gather into slot `s`: its rows' credits together are the slot's. -/
theorem gather_credit (s : Fin 2) (h : S100000x128.Gathers 0 S128x128) :
    ∑ j, ((RW s).slice (S128x128.rowRect h.axis' j) (S128x128.stride_rowRect h.axis' j)).view.dmaCredit = (RW 0).view.dmaCredit := by
  revert h; revert s; decide

/-- The gather into slot `s` of the rows that slot `s'` names, and the wait for it. -/
theorem wp_gather (s : Fin 2) (n : Fin 160) (O : CellTallies nD τ sig (HIx 1)) (W : Waits sig (HIx 1)) (q : PosShare TreeShare)
    (hX : ∀ x, (X x).toNat < 100000)
    {o10 : Fin 3 → ℕ} (h10 : o10 = ![s.val, 0, 0]) (i10 j10 : ∀ a, o10 a + S1x128x128.size a ≤ S2x128x128.size a)
    {o11 : Fin 3 → ℕ} (h11 : o11 = ![s.val, 0, 0]) (i11 : ∀ a, o11 a + S1x1x128.size a ≤ S2x1x128.size a)
    {e1 e2 e3 e4 e5 e6} {e7 : ((sR.slice (Rect.unit (s := S2x128x128) o10 S1x128x128.size j10) (fun _ => rfl)).squeeze S128x128 squeezes_S1x128x128_S128x128).view.WordExact}
    (k : PUnit → Prog (TpuEff nD τ sig (Elt F) Λ₀ (thr d L).2) α) :
    iprop(listed d L X s n ∗ (∃ f, slotR d L s f) ∗ (TW.view.loc (thr d L) ↦[TW.view.set]{q} T)
        ∗ semVal (thr d L, SemLoc.dma cc0_scoped4.sem) 0 ∗ owes (thr d L) O W ∗ Transfers.MayWaits (thr d L) (default : HIx 1) O)
      ⊢ iprop((iprop((∃ f, slotI d L s f) ∗ rowed d L T X s n ∗ (TW.view.loc (thr d L) ↦[TW.view.set]{q} T)
                ∗ semVal (thr d L, SemLoc.dma cc0_scoped4.sem) 0
                ∗ owes (thr d L) O (insert (SemLoc.dma cc0_scoped4.sem, (default : HIx 1)) W))
              -∗ wp frame (wpE (defs₀ (F := F)) 𝒱₀ (thr d L) none) Set.univ (k ⟨⟩) Q)
          -∗ wp frame (wpE (defs₀ (F := F)) 𝒱₀ (thr d L) none) Set.univ
            (SparseCore.enqueueIndirectGather (p := (thr d L).2) e1 TW ((sR.slice (Rect.unit (s := S2x128x128) o10 S1x128x128.size i10) (fun _ => rfl)).squeeze S128x128 squeezes_S1x128x128_S128x128)
              gathers_S100000x128_S128x128
              ((((sI.slice (Rect.unit (s := S2x1x128) o11 S1x1x128.size i11) (fun _ => rfl)).squeeze S1x128 squeezes_S1x1x128_S1x128).slice
                (Rect.unit (s := S1x128) ![0, 0] S1x128.size inb_S1x128_S1x128_0_0) (fun _ => rfl)).squeeze S128 squeezes_S1x128_S128)
              numel_list cc0_scoped4.sem e2 e3 e4 e5 >>= fun _ =>
             SparseCore.waitIndirectGather (p := (thr d L).2) cc0_scoped4.sem TW
              ((sR.slice (Rect.unit (s := S2x128x128) o10 S1x128x128.size j10) (fun _ => rfl)).squeeze S128x128 squeezes_S1x128x128_S128x128) e6 e7 >>= k) Q) := by
  subst h10 h11
  iintro ⟨⟨%g, %hg, Hs⟩, ⟨%f, Hr⟩, HT, Hv, HO, Hmw⟩ Hk
  have hfo : ∀ j, (LW s).view.read (Elt F) g j = X ((XW n).view.emb (at2 (d := ![1, 128]) ⟨0, by decide⟩ (j 0))) := fun j => by
    rw [read_LW d L, hg]; rfl
  have hin : ∀ x, ((LW s).view.read (Elt F) g x).toNat < S100000x128.size (gathers_S100000x128_S128x128).axis := fun x => by
    rw [hfo]; exact hX _
  iapply (SparseCore.wp_indirectGatherLocal countersEmb 𝒱₀ (thr d L) none (src := TW) (dst := RW s) (offs := LW s) (hn := numel_list) (q := q) (qo := fullShare)
    (fs := T) (fd := f) (fo := g) (default : HIx 1) (RW 0).view.dmaCredit (gather_credit s _) (by decide) hin) $$ [Hs Hr HT Hv]
  · isplitl [HT]; · iexact HT
    isplitl [Hr]; · iexact Hr
    isplitl [Hs]; · iexact Hs
    iexact Hv
  iintro Hfl
  iapply (Transfers.wp_waitLocalO countersEmb 𝒱₀ (thr d L) none (hsrc := e6) (hdst := e7) (k := k) (Q := Q) (default : HIx 1) (N := (RW 0).view.dmaCredit) rfl) $$ [Hfl HO Hmw]
  · isplitl [Hfl]; · iexact Hfl
    isplitl [HO]; · iexact HO
    iapply (Transfers.MayWaits.elim (SemLoc.dma cc0_scoped4.sem)) $$ Hmw
  iintro ⟨⟨Hr, HT, Hs⟩, Hv, HO⟩
  iapply Hk
  isplitl [Hs]; · iexists g; iexact Hs
  isplitl [Hr]
  · iexists _; isplitr
    swap; · iexact Hr
    ipureintro
    rw [View.read_write_univ]
    exact payload_eq T X n _ hfo hin
  isplitl [HT]; · iexact HT
  isplitl [Hv] <;> iassumption

/-! ### The write-out of one block -/

/-- Issue the write-out of block `n` from slot `s`. -/
theorem wp_send (s : Fin 2) (n : Fin 160)
    {o4 : Fin 3 → ℕ} (h4 : o4 = ![s.val, 0, 0]) (i4 : ∀ a, o4 a + S1x128x128.size a ≤ S2x128x128.size a)
    {o5 : Fin 2 → ℕ} (h5 : o5 = ![128 * n.val, 0]) (i5 : ∀ a, o5 a + S128x128.size a ≤ S20480x128.size a)
    {o6 : Fin 1 → ℕ} (h6 : o6 = ![s.val]) (i6 : ∀ a, o6 a + S1.size a ≤ S2.size a)
    {e1 : ((sR.slice (Rect.unit (s := S2x128x128) o4 S1x128x128.size i4) (fun _ => rfl)).squeeze S128x128 squeezes_S1x128x128_S128x128).view.WordExact}
    {e2 : (oV.slice (Rect.unit (s := S20480x128) o5 S128x128.size i5) (fun _ => rfl)).view.WordExact}
    {e3} (k : PUnit → Prog (TpuEff nD τ sig (Elt F) Λ₀ (thr d L).2) α) :
    iprop(rowed d L T X s n ∗ (∃ f, oBlk d L n f) ∗ semVal (thr d L, SemLoc.dma (semO s)) 0)
      ⊢ iprop((sending d L T X s n -∗ wp frame (wpE (defs₀ (F := F)) 𝒱₀ (thr d L) none) Set.univ (k ⟨⟩) Q)
          -∗ wp frame (wpE (defs₀ (F := F)) 𝒱₀ (thr d L) none) Set.univ
            (.op (.enqueueDma ((sR.slice (Rect.unit (s := S2x128x128) o4 S1x128x128.size i4) (fun _ => rfl)).squeeze S128x128 squeezes_S1x128x128_S128x128)
              (.here (oV.slice (Rect.unit (s := S20480x128) o5 S128x128.size i5) (fun _ => rfl)))
              (.dma ((cc0_scoped3.slice (Rect.unit (s := S2) o6 S1.size i6)).squeeze S_ squeezes_S1_S_).sem) e1 e2 e3) k) Q) := by
  have hsem := semO_eq s h6 i6
  subst h4 h5
  generalize ((cc0_scoped3.slice (Rect.unit (s := S2) o6 S1.size i6)).squeeze S_ squeezes_S1_S_).sem = w at *
  subst hsem
  iintro ⟨⟨%g, %hg, Hs⟩, ⟨%f, Ho⟩, Hv⟩ Hk
  iapply (Transfers.wp_dmaLocal countersEmb 𝒱₀ (thr d L) none (src := RW s) (dst := OW n) (via := .same) (Sd := (OW n).view.set)
    (hsrc := e1) (hdst := e2) (hsem := e3) (k := k) (Q := Q) (q := fullShare) (fs := g) (fd := f) (default : HIx 1) (OW 0).view.dmaCredit rfl (by decide) (Finset.Subset.refl _)) $$ [Hs Ho Hv]
  · isplitl [Hs]; · iexact Hs
    isplitl [Ho]; · iexact Ho
    iexact Hv
  iintro Hfl
  iapply Hk
  iapply (Transfers.Flight_mono countersEmb (thr d L) ?_) $$ Hfl
  iintro ⟨Ho, Hs⟩
  isplitl [Ho]
  · iapply (show ((OW n).view.loc (thr d L) ↦[(OW n).view.set]{fullShare} ((OW n).view.write (Elt F) f ((ReadAs.same).apply ((RW s).view.read (Elt F) g)) Finset.univ) : sProp 𝕄)
        ⊢ oBlk d L n (gathered T X) from le_of_eq (pointsTo_congr fun i hi => by
          obtain ⟨x, -, rfl⟩ := Finset.mem_map.mp hi
          refine View.eq_of_read_eq ?_
          rw [View.read_write_univ]
          exact congrFun hg x)) $$ Ho
  · iexists g; iexact Hs

/-- Wait for the write-out from slot `s`. -/
theorem wp_sent (s : Fin 2) (n : Fin 160) (O : CellTallies nD τ sig (HIx 1)) (W : Waits sig (HIx 1))
    {o4 : Fin 3 → ℕ} (i4 : ∀ a, o4 a + S1x128x128.size a ≤ S2x128x128.size a)
    {o5 : Fin 2 → ℕ} (i5 : ∀ a, o5 a + S128x128.size a ≤ S20480x128.size a)
    {o6 : Fin 1 → ℕ} (h6 : o6 = ![s.val]) (i6 : ∀ a, o6 a + S1.size a ≤ S2.size a)
    {e1 : ((sR.slice (Rect.unit (s := S2x128x128) o4 S1x128x128.size i4) (fun _ => rfl)).squeeze S128x128 squeezes_S1x128x128_S128x128).view.WordExact}
    {e2 : (oV.slice (Rect.unit (s := S20480x128) o5 S128x128.size i5) (fun _ => rfl)).view.WordExact}
    (k : PUnit → Prog (TpuEff nD τ sig (Elt F) Λ₀ (thr d L).2) α) :
    iprop(sending d L T X s n ∗ owes (thr d L) O W ∗ Transfers.MayWaits (thr d L) (default : HIx 1) O)
      ⊢ iprop((iprop((oBlk d L n (gathered T X) ∗ ∃ f, slotR d L s f) ∗ semVal (thr d L, SemLoc.dma (semO s)) 0
                ∗ owes (thr d L) O (insert (SemLoc.dma (semO s), (default : HIx 1)) W))
              -∗ wp frame (wpE (defs₀ (F := F)) 𝒱₀ (thr d L) none) Set.univ (k ⟨⟩) Q)
          -∗ wp frame (wpE (defs₀ (F := F)) 𝒱₀ (thr d L) none) Set.univ
            (.op (.waitDma2 ((cc0_scoped3.slice (Rect.unit (s := S2) o6 S1.size i6)).squeeze S_ squeezes_S1_S_).sem
              ((sR.slice (Rect.unit (s := S2x128x128) o4 S1x128x128.size i4) (fun _ => rfl)).squeeze S128x128 squeezes_S1x128x128_S128x128)
              (oV.slice (Rect.unit (s := S20480x128) o5 S128x128.size i5) (fun _ => rfl)) e1 e2) k) Q) := by
  have hsem := semO_eq s h6 i6
  generalize ((cc0_scoped3.slice (Rect.unit (s := S2) o6 S1.size i6)).squeeze S_ squeezes_S1_S_).sem = w at *
  subst hsem
  iintro ⟨Hfl, HO, Hmw⟩ Hk
  iapply (Transfers.wp_waitLocalO countersEmb 𝒱₀ (thr d L) none (hsrc := e1) (hdst := e2) (k := k) (Q := Q) (default : HIx 1) (N := (OW 0).view.dmaCredit) rfl) $$ [Hfl HO Hmw]
  · isplitl [Hfl]; · iexact Hfl
    isplitl [HO]; · iexact HO
    iapply (Transfers.MayWaits.elim (SemLoc.dma (semO s))) $$ Hmw
  iexact Hk

end Tile

end Cert.Proof.Gather

end
-- ==== Proof.Tile.lean ====
/-
  One tile's run of the gather. The tile walks its five blocks with two slots: while block `k` is gathered, block
  `k + 1` of the list is being fetched and block `k - 1` of the output is being sent. The loop's invariant says, at each
  trip, what is outstanding and what the memory holds; after the last wait the tile's five blocks of the output hold the
  gathered array.
-/
module

public import proofs.«01_k».proof.Proof.Windows

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The slot of trip `k`. -/
def sl (k : ℕ) : Fin 2 := ⟨k % 2, Nat.mod_lt _ (by omega)⟩
/-- The number of the tile's block `k`. -/
def blk (L : grid0.Coords) (k : ℕ) : Fin 160 := ⟨(first L + k) % 160, Nat.mod_lt _ (by omega)⟩

/-- Two trips on the slot is the same. -/
theorem sl_add_two (k : ℕ) : sl (k + 2) = sl k := Fin.ext (by simp [sl])
/-- The tile's blocks follow its first. -/
theorem blk_val (L : grid0.Coords) {k : ℕ} (hk : k < 5) : (blk L k).val = first L + k :=
  Nat.mod_eq_of_lt (by have := first_le L; omega)

/-- The first fetch is of the tile's first block. -/
theorem off2_eq : ∀ i : grid0.Coords, k0_off2 i = ![0, 128 * (blk i 0).val] := by decide +kernel

/-- The five words the body hands to the next trip are the next trip's. -/
theorem next_eq : ∀ (i : grid0.Coords) (t : Fin k0_t1_loop.trips),
    ((Scalar.select (Scalar.andi (Scalar.andi (Scalar.cmpi .ne (Scalar.addi (acc t.val).2.2.2.2 (base i)) (Scalar.addi (Scalar.select (Scalar.cmpi .eq (Scalar.select 1#1 (Scalar.addi (acc t.val).2.2.2.2 1#32) (acc t.val).2.2.2.2) 5#32) 0#32 (Scalar.select 1#1 (Scalar.addi (acc t.val).2.2.2.2 1#32) (acc t.val).2.2.2.2)) (base i))) (Scalar.xori (Scalar.cmpi .sge (Scf.iv 0#32 1#32 t) 4#32) 1#1)) 1#1) (Scalar.addi (acc t.val).1 1#32) (acc t.val).1,
      Scalar.select (Scalar.ori (Scalar.cmpi .ne (Scalar.addi (acc t.val).2.2.2.2 (base i)) (Scalar.addi (Scalar.select (Scalar.cmpi .eq (Scalar.select 1#1 (Scalar.addi (acc t.val).2.2.2.2 1#32) (acc t.val).2.2.2.2) 5#32) 0#32 (Scalar.select 1#1 (Scalar.addi (acc t.val).2.2.2.2 1#32) (acc t.val).2.2.2.2)) (base i))) (Scalar.cmpi .eq (Scf.iv 0#32 1#32 t) 4#32)) (Scalar.addi (acc t.val).2.1 1#32) (acc t.val).2.1,
      Scalar.select (Scalar.andi (Scalar.ori (Scalar.cmpi .ne (Scalar.addi (acc t.val).2.2.2.2 (base i)) (Scalar.addi (Scalar.select (Scalar.cmpi .eq (Scalar.select 1#1 (Scalar.addi (acc t.val).2.2.2.2 1#32) (acc t.val).2.2.2.2) 5#32) 0#32 (Scalar.select 1#1 (Scalar.addi (acc t.val).2.2.2.2 1#32) (acc t.val).2.2.2.2)) (base i))) (Scalar.cmpi .eq (Scf.iv 0#32 1#32 t) 4#32)) 1#1) (Scalar.addi (acc t.val).2.2.1 1#32) (acc t.val).2.2.1,
      Scalar.select (Scalar.andi (Scalar.andi (Scalar.cmpi .ne (Scalar.addi (acc t.val).2.2.2.2 (base i)) (Scalar.addi (Scalar.select (Scalar.cmpi .eq (Scalar.select 1#1 (Scalar.subi (acc t.val).2.2.2.2 1#32) (acc t.val).2.2.2.2) 4294967295#32) 4#32 (Scalar.select 1#1 (Scalar.subi (acc t.val).2.2.2.2 1#32) (acc t.val).2.2.2.2)) (base i))) (Scalar.xori (Scalar.cmpi .eq (Scf.iv 0#32 1#32 t) 0#32) 1#1)) 1#1) (Scalar.addi (acc t.val).2.2.2.1 1#32) (acc t.val).2.2.2.1,
      (Scalar.select (Scalar.cmpi .eq (Scalar.select 1#1 (Scalar.addi (acc t.val).2.2.2.2 1#32) (acc t.val).2.2.2.2) 5#32) 0#32 (Scalar.select 1#1 (Scalar.addi (acc t.val).2.2.2.2 1#32) (acc t.val).2.2.2.2))) : BitVec 32 × BitVec 32 × BitVec 32 × BitVec 32 × BitVec 32)
      = acc (t.val + 1) := by decide +kernel

section Tile

variable (d : Dev nD) (L : grid0.Coords)
variable (T : S100000x128.Idx → Elt F .f32) (X : S1x20480.Idx → Elt F .i32)

/-- A slot of the list with nothing outstanding, -/
abbrev freeI (s : Fin 2) : sProp 𝕄 := iprop((∃ f, slotI d L s f) ∗ semVal (thr d L, SemLoc.dma (semI s)) 0)
/-- and a slot of the rows. -/
abbrev freeR (s : Fin 2) : sProp 𝕄 := iprop((∃ f, slotR d L s f) ∗ semVal (thr d L, SemLoc.dma (semO s)) 0)

/-- The fetch that trip `k` waits for. -/
def inp (k : ℕ) : sProp 𝕄 := if k < 5 then fetching d L X (sl k) (blk L k) else freeI d L (sl k)
/-- The write-out that trip `k` waits for. -/
def outp (k : ℕ) : sProp 𝕄 := if 0 < k then sending d L T X (sl (k + 1)) (blk L (k - 1)) else freeR d L (sl (k + 1))
/-- The blocks of the list not being fetched. -/
def xs (k : ℕ) : sProp 𝕄 := bigSep ((Finset.range 5).erase k) fun j => xBlk d L (blk L j) X
/-- The blocks of the output that are done. -/
def done (k : ℕ) : sProp 𝕄 := bigSep (Finset.range k) fun j => oBlk d L (blk L j) (gathered T X)
/-- The blocks of the output that are still to be written. -/
def todo (k : ℕ) : sProp 𝕄 := bigSep (Finset.Ico k 5) fun j => iprop(∃ f, oBlk d L (blk L j) f)

/-- What the loop keeps. -/
def IL (q : PosShare TreeShare) (O : CellTallies nD τ sig (HIx 1)) (W : Waits sig (HIx 1)) (k : ℕ)
    (a : BitVec 32 × BitVec 32 × BitVec 32 × BitVec 32 × BitVec 32) : sProp 𝕄 :=
  iprop(⌜a = acc k⌝ ∗ inp d L X k ∗ freeI d L (sl (k + 1)) ∗ freeR d L (sl k) ∗ outp d L T X k ∗ xs d L X k
    ∗ done d L T X (k - 1) ∗ todo d L k ∗ (TW.view.loc (thr d L) ↦[TW.view.set]{q} T)
    ∗ semVal (thr d L, SemLoc.dma cc0_scoped4.sem) 0
    ∗ (∃ W' : Waits sig (HIx 1), ⌜∀ p ∈ W', p ∈ W ∨ p.2 = none⌝ ∗ owes (thr d L) O W'))

/-- Trip `k` takes block `k` of the output, -/
theorem todo_take {k : ℕ} (hk : k < 5) : todo (F := F) d L k = iprop((∃ f, oBlk d L (blk L k) f) ∗ todo d L (k + 1)) := by
  unfold todo
  rw [SparseCore.bigSep_erase' (i := k) (Finset.mem_Ico.mpr ⟨le_rfl, hk⟩), show (Finset.Ico k 5).erase k = Finset.Ico (k + 1) 5 by
    ext j; simp only [Finset.mem_erase, Finset.mem_Ico]; omega]
/-- and puts it back done. -/
theorem done_put (k : ℕ) : iprop(oBlk d L (blk L k) (gathered T X) ∗ done d L T X k) = done d L T X (k + 1) := by
  unfold done
  rw [SparseCore.bigSep_erase' (s := Finset.range (k + 1)) (i := k) (Finset.mem_range.mpr (Nat.lt_succ_self k)), show (Finset.range (k + 1)).erase k = Finset.range k by
    ext j; simp only [Finset.mem_erase, Finset.mem_range]; omega]
/-- The list's blocks but two. -/
def xs2 (k : ℕ) : sProp 𝕄 := bigSep (((Finset.range 5).erase k).erase (k + 1)) fun j => xBlk d L (blk L j) X
/-- Trip `k` takes block `k + 1` of the list to fetch it; -/
theorem xs_take {k : ℕ} (hk : k < 4) : xs d L X k = iprop(xBlk d L (blk L (k + 1)) X ∗ xs2 d L X k) := by
  unfold xs xs2
  rw [SparseCore.bigSep_erase' (i := k + 1) (Finset.mem_erase.mpr ⟨by omega, Finset.mem_range.mpr (by omega)⟩)]
/-- before the loop block 0 is taken, -/
theorem xs_zero : (bigSep (Finset.range 5) fun j => xBlk d L (blk L j) X) = iprop(xBlk d L (blk L 0) X ∗ xs d L X 0) := by
  unfold xs
  rw [SparseCore.bigSep_erase' (i := 0) (Finset.mem_range.mpr (by omega))]
/-- after it none is, -/
theorem xs_five : xs d L X 5 = (bigSep (Finset.range 5) fun j => xBlk d L (blk L j) X) := by
  unfold xs
  rw [show (Finset.range 5).erase 5 = Finset.range 5 by decide]
/-- and the last trip takes none. -/
theorem xs_last : xs d L X 4 = xs2 d L X 4 := by
  unfold xs xs2
  rw [show ((Finset.range 5).erase 4).erase (4 + 1) = (Finset.range 5).erase 4 by decide]
/-- A fetched block is put back. -/
theorem xs_put {k : ℕ} (hk : k < 5) : iprop(xBlk d L (blk L k) X ∗ xs2 d L X k) = xs d L X (k + 1) := by
  unfold xs xs2
  rw [SparseCore.bigSep_erase' (s := (Finset.range 5).erase (k + 1)) (i := k) (Finset.mem_erase.mpr ⟨by omega, Finset.mem_range.mpr hk⟩), Finset.erase_right_comm]

/-- The fetch that a trip waits for, -/
theorem inp_lt {k : ℕ} (hk : k < 5) : inp d L X k = fetching d L X (sl k) (blk L k) := if_pos hk
/-- and the write-out. -/
theorem outp_succ (k : ℕ) : outp d L T X (k + 1) = sending d L T X (sl k) (blk L k) := by
  unfold outp; rw [if_pos (by omega), sl_add_two]; rfl

variable [FloatOps F]

/-- A wait on one counter more, of no call, keeps the record within its bounds. -/
theorem waits_insert {W W' : Waits sig (HIx 1)} (h : ∀ p ∈ W', p ∈ W ∨ p.2 = none) (g : SemLoc sig) :
    ∀ p ∈ insert (g, (default : HIx 1)) W', p ∈ W ∨ p.2 = none := by
  intro p hp
  rcases Finset.mem_insert.mp hp with rfl | h'
  · exact .inr rfl
  · exact h p h'

variable {α : Type} {Q : α → sProp (MT nD τ sig (HIx 1) (Elt F) ℕ UU ℕ)}

/-- The fetch that trip `t` issues for the next trip, when there is one. -/
theorem wp_fetchNext (t : Fin k0_t1_loop.trips)
    {i4 : k0_cond1 L t (acc t.val).2.2.2.2 = 1#1 → ∀ a, k0_off4 (acc t.val).1 a + S1x1x128.size a ≤ S2x1x128.size a}
    {i5 : k0_cond1 L t (acc t.val).2.2.2.2 = 1#1 → ∀ a, k0_off5 L (acc t.val).2.2.2.2 a + S1x128.size a ≤ S1x20480.size a}
    {i6 : k0_cond1 L t (acc t.val).2.2.2.2 = 1#1 → ∀ a, k0_off6 (acc t.val).1 a + S1.size a ≤ S2.size a}
    {e1 : ∀ h, (xV.slice (Rect.unit (s := S1x20480) (k0_off5 L (acc t.val).2.2.2.2) S1x128.size (i5 h)) (fun _ => rfl)).view.WordExact}
    {e2 : ∀ h, ((sI.slice (Rect.unit (s := S2x1x128) (k0_off4 (acc t.val).1) S1x1x128.size (i4 h)) (fun _ => rfl)).squeeze S1x128 squeezes_S1x1x128_S1x128).view.WordExact}
    (k : PUnit → Prog (TpuEff nD τ sig (Elt F) Λ₀ (thr d L).2) α) (k' : Prog (TpuEff nD τ sig (Elt F) Λ₀ (thr d L).2) α) (hk : k ⟨⟩ = k') :
    iprop(freeI d L (sl (t.val + 1)) ∗ xs d L X t.val)
      ⊢ iprop((iprop(inp d L X (t.val + 1) ∗ xs2 d L X t.val) -∗ wp frame (wpE (defs₀ (F := F)) 𝒱₀ (thr d L) none) Set.univ k' Q)
          -∗ wp frame (wpE (defs₀ (F := F)) 𝒱₀ (thr d L) none) Set.univ
            (if h : k0_cond1 L t (acc t.val).2.2.2.2 = 1#1 then
              .op (.enqueueDma (xV.slice (Rect.unit (s := S1x20480) (k0_off5 L (acc t.val).2.2.2.2) S1x128.size (i5 h)) (fun _ => rfl))
                (.here ((sI.slice (Rect.unit (s := S2x1x128) (k0_off4 (acc t.val).1) S1x1x128.size (i4 h)) (fun _ => rfl)).squeeze S1x128 squeezes_S1x1x128_S1x128))
                (.dma ((cc0_scoped1.slice (Rect.unit (s := S2) (k0_off6 (acc t.val).1) S1.size (i6 h))).squeeze S_ squeezes_S1_S_).sem) (e1 h) (e2 h) ⟨Or.inl rfl, trivial⟩) k
            else k') Q) := by
  have ht : t.val < 5 := trips_eq ▸ t.isLt
  subst hk
  by_cases h4 : t.val < 4
  · have hc : k0_cond1 L t (acc t.val).2.2.2.2 = 1#1 := (cond1_iff L t).mpr h4
    rw [dif_pos hc, xs_take d L X h4]
    iintro ⟨⟨Hs, Hv⟩, Hx, Hx2⟩ Hk
    iapply (wp_fetch d L X (sl (t.val + 1)) (blk L (t.val + 1)) (by rw [off4_eq, Nat.min_eq_left (by omega)]; rfl) (i4 hc)
      (by rw [off5_eq L t h4, blk_val L (by omega)]) (i5 hc) (by rw [off6_eq, Nat.min_eq_left (by omega)]; rfl) (i6 hc) (e1 := e1 hc) (e2 := e2 hc) k) $$ [Hs Hx Hv]
    · isplitl [Hs]; · iexact Hs
      isplitl [Hx] <;> iassumption
    iintro Hf
    iapply Hk
    isplitl [Hf]
    · unfold inp; rw [if_pos (by omega)]; iexact Hf
    · iexact Hx2
  · have e4 : t.val = 4 := by omega
    rw [dif_neg (fun h => h4 ((cond1_iff L t).mp h)), e4, xs_last]
    iintro ⟨Hi, Hx⟩ Hk
    iapply Hk
    isplitl [Hi]
    · unfold inp; rw [if_neg (by omega)]; iexact Hi
    · iexact Hx

/-- The wait of trip `t` for the write-out of the trip before, when there was one. -/
theorem wp_sentPrev (t : Fin k0_t1_loop.trips) (O : CellTallies nD τ sig (HIx 1)) (W : Waits sig (HIx 1))
    {i4 : k0_cond7 L t (acc t.val).2.2.2.2 = 1#1 → ∀ a, k0_off15 (acc t.val).2.2.2.1 a + S1x128x128.size a ≤ S2x128x128.size a}
    {i5 : k0_cond7 L t (acc t.val).2.2.2.2 = 1#1 → ∀ a, k0_off16 L (acc t.val).2.2.2.2 a + S128x128.size a ≤ S20480x128.size a}
    {i6 : k0_cond7 L t (acc t.val).2.2.2.2 = 1#1 → ∀ a, k0_off17 (acc t.val).2.2.2.1 a + S1.size a ≤ S2.size a}
    {e1 : ∀ h, ((sR.slice (Rect.unit (s := S2x128x128) (k0_off15 (acc t.val).2.2.2.1) S1x128x128.size (i4 h)) (fun _ => rfl)).squeeze S128x128 squeezes_S1x128x128_S128x128).view.WordExact}
    {e2 : ∀ h, (oV.slice (Rect.unit (s := S20480x128) (k0_off16 L (acc t.val).2.2.2.2) S128x128.size (i5 h)) (fun _ => rfl)).view.WordExact}
    (k : PUnit → Prog (TpuEff nD τ sig (Elt F) Λ₀ (thr d L).2) α) (k' : Prog (TpuEff nD τ sig (Elt F) Λ₀ (thr d L).2) α) (hk : k ⟨⟩ = k') :
    iprop(outp d L T X t.val ∗ done d L T X (t.val - 1) ∗ (∃ W' : Waits sig (HIx 1), ⌜∀ p ∈ W', p ∈ W ∨ p.2 = none⌝ ∗ owes (thr d L) O W')
        ∗ Transfers.MayWaits (thr d L) (default : HIx 1) O)
      ⊢ iprop((iprop(freeR d L (sl (t.val + 1)) ∗ done d L T X t.val
                ∗ (∃ W' : Waits sig (HIx 1), ⌜∀ p ∈ W', p ∈ W ∨ p.2 = none⌝ ∗ owes (thr d L) O W'))
              -∗ wp frame (wpE (defs₀ (F := F)) 𝒱₀ (thr d L) none) Set.univ k' Q)
          -∗ wp frame (wpE (defs₀ (F := F)) 𝒱₀ (thr d L) none) Set.univ
            (if h : k0_cond7 L t (acc t.val).2.2.2.2 = 1#1 then
              .op (.waitDma2 ((cc0_scoped3.slice (Rect.unit (s := S2) (k0_off17 (acc t.val).2.2.2.1) S1.size (i6 h))).squeeze S_ squeezes_S1_S_).sem
                ((sR.slice (Rect.unit (s := S2x128x128) (k0_off15 (acc t.val).2.2.2.1) S1x128x128.size (i4 h)) (fun _ => rfl)).squeeze S128x128 squeezes_S1x128x128_S128x128)
                (oV.slice (Rect.unit (s := S20480x128) (k0_off16 L (acc t.val).2.2.2.2) S128x128.size (i5 h)) (fun _ => rfl)) (e1 h) (e2 h)) k
            else k') Q) := by
  subst hk
  by_cases h0 : 0 < t.val
  · have hc : k0_cond7 L t (acc t.val).2.2.2.2 = 1#1 := (cond7_iff L t).mpr h0
    have hs : (t.val - 1) % 2 = (t.val + 1) % 2 := by omega
    rw [dif_pos hc]
    unfold outp; rw [if_pos h0]
    iintro ⟨Hf, Hd, ⟨%W', %hW', HO⟩, Hmw⟩ Hk
    iapply (wp_sent d L T X (sl (t.val + 1)) (blk L (t.val - 1)) O W' (i4 hc) (i5 hc) (by rw [off17_eq, hs]; rfl) (i6 hc) (e1 := e1 hc) (e2 := e2 hc) k) $$ [Hf HO Hmw]
    · isplitl [Hf]; · iexact Hf
      isplitl [HO] <;> iassumption
    iintro ⟨⟨Ho, Hs⟩, Hv, HO⟩
    iapply Hk
    isplitl [Hs Hv]
    · isplitl [Hs] <;> iassumption
    isplitl [Ho Hd]
    · iapply (show iprop(oBlk d L (blk L (t.val - 1)) (gathered T X) ∗ done d L T X (t.val - 1)) ⊢ done d L T X t.val from by
        rw [done_put, Nat.sub_add_cancel h0])
      isplitl [Ho] <;> iassumption
    · iexists _; isplitr
      swap; · iexact HO
      ipureintro; exact waits_insert hW' _
  · have e0 : t.val = 0 := by omega
    rw [dif_neg (fun h => h0 ((cond7_iff L t).mp h))]
    unfold outp; rw [if_neg h0, e0]
    iintro ⟨Hf, Hd, HO, _⟩ Hk
    iapply Hk
    isplitl [Hf]; · iexact Hf
    isplitl [Hd] <;> iassumption

set_option maxHeartbeats 4000000 in
/-- One trip. -/
theorem trip (q : PosShare TreeShare) (O : CellTallies nD τ sig (HIx 1)) (W : Waits sig (HIx 1))
    (hX : ∀ x, (X x).toNat < 100000) (t : Fin k0_t1_loop.trips) (a : BitVec 32 × BitVec 32 × BitVec 32 × BitVec 32 × BitVec 32) :
    iprop(Transfers.MayWaits (thr d L) (default : HIx 1) O ∗ IL d L T X q O W t.val a)
      ⊢ wp frame (wpE (defs₀ (F := F)) 𝒱₀ (thr d L) none) Set.univ
          (k0_t1_body L (Memref.whole main_v2_scv) (Memref.isWhole_whole _) (Memref.whole main_v1_scv) (Memref.isWhole_whole _)
            (Memref.whole main_v3_scv) (Memref.isWhole_whole _) (Memref.whole cc0_scoped0) (Memref.isWhole_whole _) cc0_scoped1
            (Memref.whole cc0_scoped2) (Memref.isWhole_whole _) cc0_scoped3 cc0_scoped4 (base L) t a)
          (IL d L T X q O W (t.val + 1)) := by
  have ht : t.val < 5 := trips_eq ▸ t.isLt
  suffices h : iprop(Transfers.MayWaits (thr d L) (default : HIx 1) O ∗ IL d L T X q O W t.val (acc t.val))
      ⊢ wp frame (wpE (defs₀ (F := F)) 𝒱₀ (thr d L) none) Set.univ
          (k0_t1_body L (Memref.whole main_v2_scv) (Memref.isWhole_whole _) (Memref.whole main_v1_scv) (Memref.isWhole_whole _)
            (Memref.whole main_v3_scv) (Memref.isWhole_whole _) (Memref.whole cc0_scoped0) (Memref.isWhole_whole _) cc0_scoped1
            (Memref.whole cc0_scoped2) (Memref.isWhole_whole _) cc0_scoped3 cc0_scoped4 (base L) t
            ((acc t.val).1, (acc t.val).2.1, (acc t.val).2.2.1, (acc t.val).2.2.2.1, (acc t.val).2.2.2.2))
          (IL d L T X q O W (t.val + 1)) by
    iintro ⟨Hmw, HI⟩
    unfold IL
    icases HI with ⟨%ha, HI⟩
    subst ha
    iapply h
    unfold IL
    isplitl [Hmw]; · iexact Hmw
    isplitr; · ipureintro; rfl
    iexact HI
  unfold k0_t1_body
  simp only [k0_part1_eq_skeleton]; unfold k0_part1_skel
  simp only [k0_part2_eq_skeleton]; unfold k0_part2_skel
  simp only [Prog.lift, Prog.bind_op, Prog.bind_ret, Prog.pure_eq_ret, Prog.bind_assoc, ite_self]
  rw [wp_assume_of _ _ _ _ (chk3 t), wp_assume_of _ _ _ _ (chk2 t), wp_assume_of _ _ _ _ (chk1 L t)]
  unfold IL
  iintro ⟨#Hmw, %ha, Hin, Hi1, Hr0, Hout, Hxs, Hdone, Htodo, HT, Hv, %W', %hW', HO⟩
  rw [wp_bind]
  iapply (wp_fetchNext d L X t _ _ rfl) $$ [Hi1 Hxs]
  · isplitl [Hi1] <;> iassumption
  iintro ⟨Hin1, Hxs⟩
  rw [wp_ret]; imodintro
  rw [dif_pos (cond2_eq L t), dif_pos (cond5_eq L t)]
  simp only [Prog.bind_op, Prog.bind_ret, Prog.bind_assoc]
  -- the wait for this trip's fetch
  ihave Hin := (show inp d L X t.val ⊢ fetching d L X (sl t.val) (blk L t.val) from le_of_eq (inp_lt d L X ht)) $$ Hin
  iapply (wp_fetched d L X (sl t.val) (blk L t.val) O W' _ _ (off9_eq t) _ _) $$ [Hin HO]
  · isplitl [Hin]; · iexact Hin
    isplitl [HO]; · iexact HO
    iexact Hmw
  iintro ⟨⟨Hl, Hx⟩, Hvi, HO⟩
  -- the gather of this trip's block
  icases Hr0 with ⟨Hr, Hvr⟩
  iapply (wp_gather d L T X (sl t.val) (blk L t.val) O _ q hX (off10_eq t) _ _ (off11_eq t) _ _) $$ [Hl Hr HT Hv HO]
  · isplitl [Hl]; · iexact Hl
    isplitl [Hr]; · iexact Hr
    isplitl [HT]; · iexact HT
    isplitl [Hv]; · iexact Hv
    isplitl [HO]; · iexact HO
    iexact Hmw
  iintro ⟨Hi, Hrow, HT, Hv, HO⟩
  simp only [Prog.bind_op, Prog.bind_ret, Prog.bind_assoc]
  -- the write-out of this trip's block
  ihave Htodo := (show todo (F := F) d L t.val ⊢ iprop((∃ f, oBlk d L (blk L t.val) f) ∗ todo d L (t.val + 1)) from le_of_eq (todo_take d L ht)) $$ Htodo
  icases Htodo with ⟨Ho, Htodo⟩
  iapply (wp_send d L T X (sl t.val) (blk L t.val) (off12_eq t) _ (by rw [off13_eq, blk_val L ht]) _ (off14_eq t) _ _) $$ [Hrow Ho Hvr]
  · isplitl [Hrow]; · iexact Hrow
    isplitl [Ho] <;> iassumption
  iintro Hsend
  -- the wait for the write-out before
  iapply (wp_sentPrev d L T X t O W _ _ rfl) $$ [Hout Hdone HO]
  · isplitl [Hout]; · iexact Hout
    isplitl [Hdone]; · iexact Hdone
    isplitl [HO]
    · iexists _; isplitr
      swap; · iexact HO
      ipureintro; exact waits_insert (waits_insert hW' _) _
    iexact Hmw
  iintro ⟨Hr1, Hdone, HO⟩
  rw [wp_ret]; imodintro
  isplitr
  · ipureintro; exact next_eq L t
  isplitl [Hin1]; · iexact Hin1
  isplitl [Hi Hvi]
  · rw [sl_add_two]; isplitl [Hi] <;> iassumption
  isplitl [Hr1]; · iexact Hr1
  isplitl [Hsend]; · rw [outp_succ]; iexact Hsend
  isplitl [Hx Hxs]
  · rw [← xs_put d L X ht]; isplitl [Hx] <;> iassumption
  isplitl [Hdone]; · rw [Nat.add_sub_cancel]; iexact Hdone
  isplitl [Htodo]; · iexact Htodo
  isplitl [HT]; · iexact HT
  isplitl [Hv] <;> iassumption

set_option maxHeartbeats 4000000 in
/-- The whole tile: from its two free slots, its five blocks of the list, its five blocks of the output and its share
    of the table, to the same with the five blocks of the output gathered. -/
theorem tile_run (q : PosShare TreeShare) (O : CellTallies nD τ sig (HIx 1)) (W : Waits sig (HIx 1)) (hX : ∀ x, (X x).toNat < 100000) :
    iprop(Transfers.MayWaits (thr d L) (default : HIx 1) O ∗ freeI d L 0 ∗ freeI d L 1 ∗ freeR d L 0 ∗ freeR d L 1
        ∗ (bigSep (Finset.range 5) fun j => xBlk d L (blk L j) X) ∗ todo (F := F) d L 0 ∗ (TW.view.loc (thr d L) ↦[TW.view.set]{q} T)
        ∗ semVal (thr d L, SemLoc.dma cc0_scoped4.sem) 0 ∗ owes (thr d L) O W)
      ⊢ wp frame (wpE (defs₀ (F := F)) 𝒱₀ (thr d L) none) Set.univ
          (cc0_gather_kernel L (Memref.whole main_v2_scv) (Memref.isWhole_whole _) (Memref.whole main_v1_scv) (Memref.isWhole_whole _)
            (Memref.whole main_v3_scv) (Memref.isWhole_whole _) (Memref.whole cc0_scoped0) (Memref.isWhole_whole _) cc0_scoped1
            (Memref.whole cc0_scoped2) (Memref.isWhole_whole _) cc0_scoped3 cc0_scoped4)
          fun _ => iprop(freeI d L 0 ∗ freeI d L 1 ∗ freeR d L 0 ∗ freeR d L 1
            ∗ (bigSep (Finset.range 5) fun j => xBlk d L (blk L j) X) ∗ done d L T X 5 ∗ (TW.view.loc (thr d L) ↦[TW.view.set]{q} T)
            ∗ semVal (thr d L, SemLoc.dma cc0_scoped4.sem) 0
            ∗ (∃ W' : Waits sig (HIx 1), ⌜∀ p ∈ W', p ∈ W ∨ p.2 = none⌝ ∗ owes (thr d L) O W')) := by
  simp only [cc0_gather_kernel_eq_skeleton]; unfold cc0_gather_kernel_skel
  simp only [k0_part3_eq_skeleton]; unfold k0_part3_skel
  simp only [k0_part4_eq_skeleton]; unfold k0_part4_skel
  simp only [Prog.lift, Prog.bind_op, Prog.bind_ret, Prog.pure_eq_ret, Prog.bind_assoc]
  iintro ⟨#Hmw, ⟨Hi, Hvi⟩, Hi1, Hr0, Hr1, Hxs, Htodo, HT, Hv, HO⟩
  -- the first fetch
  ihave Hxs := (show _ ⊢ _ from le_of_eq (xs_zero (F := F) d L X)) $$ Hxs
  icases Hxs with ⟨Hx, Hxs⟩
  iapply (wp_fetch d L X (sl 0) (blk L 0) k0_off1_eq _ (off2_eq L) _ k0_off3_eq _ _) $$ [Hi Hx Hvi]
  · isplitl [Hi]; · iexact Hi
    isplitl [Hx]; · iexact Hx
    iexact Hvi
  iintro Hf
  sl_for (fun k a => iprop(Transfers.MayWaits (thr d L) (default : HIx 1) O ∗ IL d L T X q O W k a)) $$ [Hf Hi1 Hr0 Hr1 Hxs Htodo HT Hv HO]
  · intro t a
    iintro ⟨#Hm, HI⟩
    iapply (wp_mono _ _ _ (Q := fun a' => iprop(Transfers.MayWaits (thr d L) (default : HIx 1) O ∗ IL d L T X q O W (t.val + 1) a'))
      (fun _ => .rfl))
    iapply (wp_frame_l _ _ _)
    isplitr; · iexact Hm
    iapply (trip d L T X q O W hX t a)
    isplitr; · iexact Hm
    iexact HI
  · isplitr; · iexact Hmw
    unfold IL
    isplitr; · ipureintro; rfl
    isplitl [Hf]; · rw [inp_lt d L X (by omega : 0 < 5)]; iexact Hf
    isplitl [Hi1]; · iexact Hi1
    isplitl [Hr0]; · iexact Hr0
    isplitl [Hr1]; · unfold outp; rw [if_neg (Nat.lt_irrefl 0)]; iexact Hr1
    isplitl [Hxs]; · iexact Hxs
    isplitr
    · unfold done
      rw [show Finset.range (0 - 1) = ∅ from rfl, bigSep_empty]
      iempintro
    isplitl [Htodo]; · iexact Htodo
    isplitl [HT]; · iexact HT
    isplitl [Hv]; · iexact Hv
    iexists W; isplitr
    · ipureintro; exact fun p h => .inl h
    iexact HO
  iintro %a ⟨_, HI⟩
  sl_respell []
  rw [show Scf.trips k0_t1_loop.lb k0_t1_loop.ub k0_t1_loop.st = 5 from trips_eq]
  unfold IL
  icases HI with ⟨%ha, Hin, Hi0, Hr0, Hout, Hxs, Hdone, _, HT, Hv, %W', %hW', HO⟩
  subst ha
  rw [wp_assume_of _ _ _ _ (chk5 L), wp_assume_of _ _ _ _ chk4]
  ihave Hout := (show outp d L T X 5 ⊢ sending d L T X (sl 4) (blk L 4) from le_of_eq (outp_succ d L T X 4)) $$ Hout
  iapply (wp_sent d L T X (sl 4) (blk L 4) O W' _ _ off20_eq _ _) $$ [Hout HO]
  · isplitl [Hout]; · iexact Hout
    isplitl [HO]; · iexact HO
    iexact Hmw
  iintro ⟨⟨Ho, Hs⟩, Hvr, HO⟩
  rw [wp_ret]; imodintro
  isplitl [Hi0]; · iexact Hi0
  isplitl [Hin]; · iapply (show inp d L X 5 ⊢ freeI d L 1 from by unfold inp; rw [if_neg (Nat.lt_irrefl 5)]; exact .rfl); iexact Hin
  isplitl [Hs Hvr]
  · isplitl [Hs]; · iexact Hs
    iexact Hvr
  isplitl [Hr0]; · iexact Hr0
  isplitl [Hxs]; · rw [← xs_five]; iexact Hxs
  isplitl [Ho Hdone]
  · iapply (show iprop(oBlk d L (blk L 4) (gathered T X) ∗ done d L T X 4) ⊢ done d L T X 5 from le_of_eq (done_put d L T X 4))
    isplitl [Ho]; · iexact Ho
    iexact Hdone
  isplitl [HT]; · iexact HT
  isplitl [Hv]; · iexact Hv
  iexists _; isplitr
  swap; · iexact HO
  ipureintro; exact waits_insert hW' _

end Tile

end Cert.Proof.Gather

end
-- ==== Proof.Task.lean ====
/-
  What a tile is handed and hands back, and how the arrays in HBM are dealt to the 32 tiles: each tile takes its five
  blocks of the list, its five blocks of the output and a read share of the table, and brings back the same, its blocks
  of the output gathered.
-/
module

public import proofs.«01_k».proof.Proof.Tile

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The labels of the program with its two pipelines. -/
abbrev ΛP : Labels := Pipeline.Sig Λ₀ (Fin 2) fun p => (pcfgs (F := F) p).Adm
/-- The SparseCore call's configuration. -/
abbrev K : SparseCore.Cfg τ sig (ΛP (F := F)) 1 := sc (F := F)
/-- The program's definitions. -/
abbrev D [FloatOps F] : Defs nD τ sig (Elt F) (ΛP (F := F)) := Pipeline.defs pcfgs defs₀
/-- No loop takes a variant. -/
abbrev 𝒱 : Variants := 𝒱₀.lift
/-- The variant that a thread starts with: none. -/
abbrev v₀ : 𝒱.V := Sum.inl none

/-- The configuration's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the handshakes' ghost state lies. -/
abbrev EH : Emb UH (MT nD τ sig (HIx 1) (Elt F) ℕ UU ℕ) := embL

/-- Where the widened table, -/
abbrev tLoc (d : Dev nD) : Loc nD τ sig := (SparseCore.T d).loc main_v2
/-- the list -/
abbrev xLoc (d : Dev nD) : Loc nD τ sig := (SparseCore.T d).loc main_v1
/-- and the result lie. -/
abbrev oLoc (d : Dev nD) : Loc nD τ sig := (SparseCore.T d).loc main_v3

/-! ## The windows as parts of their arrays -/

/-- The list's scratch is cut in two slots, -/
theorem dvI : 2 ∣ S2x1x128.size 0 := ⟨1, rfl⟩
/-- the rows' scratch in two, -/
theorem dvR : 2 ∣ S2x128x128.size 0 := ⟨1, rfl⟩
/-- the list in 160 blocks, -/
theorem dvX : 160 ∣ S1x20480.size 1 := ⟨128, rfl⟩
/-- and the result in 160. -/
theorem dvO : 160 ∣ S20480x128.size 0 := ⟨128, rfl⟩

/-- A slot of the list's scratch is its part of the cut, -/
theorem set_IW (s : Fin 2) : (IW s).view.set = (Rect.part (s := S2x1x128) (a₀ := 0) dvI s).set := by
  have e : Rect.unit (s := S2x1x128) ![s.val, 0, 0] S1x1x128.size (inbI s) = Rect.part (s := S2x1x128) (a₀ := 0) dvI s := by
    unfold Rect.part Rect.block
    congr 1 <;> funext a <;> match a with
    | 0 => simp [Shape.partIx, Shape.partSize]
    | 1 => simp [Shape.partIx, Shape.partSize]
    | 2 => simp [Shape.partIx, Shape.partSize]
  show (((View.whole (cc0_scoped0 : Ref sig .scVector)).slice (Rect.unit (s := S2x1x128) ![s.val, 0, 0] S1x1x128.size (inbI s))).reshape S1x128 squeezes_S1x1x128_S1x128.numel_eq).set = _
  rw [View.set_reshape, View.set_slice]
  exact Eq.trans Finset.map_refl (congrArg (fun r => r.set) e)

/-- a slot of the rows' scratch, -/
theorem set_RW (s : Fin 2) : (RW s).view.set = (Rect.part (s := S2x128x128) (a₀ := 0) dvR s).set := by
  have e : Rect.unit (s := S2x128x128) ![s.val, 0, 0] S1x128x128.size (inbR s) = Rect.part (s := S2x128x128) (a₀ := 0) dvR s := by
    unfold Rect.part Rect.block
    congr 1 <;> funext a <;> match a with
    | 0 => simp [Shape.partIx, Shape.partSize]
    | 1 => simp [Shape.partIx, Shape.partSize]
    | 2 => simp [Shape.partIx, Shape.partSize]
  show (((View.whole (cc0_scoped2 : Ref sig .scVector)).slice (Rect.unit (s := S2x128x128) ![s.val, 0, 0] S1x128x128.size (inbR s))).reshape S128x128 squeezes_S1x128x128_S128x128.numel_eq).set = _
  rw [View.set_reshape, View.set_slice]
  exact Eq.trans Finset.map_refl (congrArg (fun r => r.set) e)

/-- a block of the list -/
theorem set_XW (n : Fin 160) : (XW n).view.set = (Rect.part (s := S1x20480) (a₀ := 1) dvX n).set := by
  have e : Rect.unit (s := S1x20480) ![0, 128 * n.val] S1x128.size (inbX n) = Rect.part (s := S1x20480) (a₀ := 1) dvX n := by
    unfold Rect.part Rect.block
    congr 1 <;> funext a <;> match a with
    | 0 => simp [Shape.partIx, Shape.partSize]
    | 1 => simp [Shape.partIx, Shape.partSize, Nat.mul_comm]
  show ((View.whole (main_v1_scv : Ref sig .scVector)).slice (Rect.unit (s := S1x20480) ![0, 128 * n.val] S1x128.size (inbX n))).set = _
  rw [View.set_slice, e]
  exact Finset.map_refl

/-- and a block of the result. -/
theorem set_OW (n : Fin 160) : (OW n).view.set = (Rect.part (s := S20480x128) (a₀ := 0) dvO n).set := by
  have e : Rect.unit (s := S20480x128) ![128 * n.val, 0] S128x128.size (inbO n) = Rect.part (s := S20480x128) (a₀ := 0) dvO n := by
    unfold Rect.part Rect.block
    congr 1 <;> funext a <;> match a with
    | 0 => simp [Shape.partIx, Shape.partSize, Nat.mul_comm]
    | 1 => simp [Shape.partIx, Shape.partSize]
  show ((View.whole (main_v3_scv : Ref sig .scVector)).slice (Rect.unit (s := S20480x128) ![128 * n.val, 0] S128x128.size (inbO n))).set = _
  rw [View.set_slice, e]
  exact Finset.map_refl

/-! ## The arrays dealt to the tiles -/

/-- The coordinates of tile `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))
/-- The number of a tile among the 32. -/
def tileNo (L : grid0.Coords) : ℕ := 16 * (L 0).val + (L 1).val

/-- SparseCore, tile and place of each block. -/
def blocks : Fin 2 × (Fin 16 × Fin 5) ≃ Fin 160 :=
  (Equiv.prodCongr (Equiv.refl (Fin 2)) (finProdFinEquiv (m := 16) (n := 5))).trans (finProdFinEquiv (m := 2) (n := 80))
/-- Place `j` of a tile is the tile's block `j`. -/
theorem blocks_eq (c : Fin 2) (i : Fin 16) (j : Fin 5) : blocks (c, (i, j)) = blk (coordsV c i) j.val := by
  apply Fin.ext
  rw [blk_val _ j.isLt]
  show (j.val + 5 * i.val) + 80 * c.val = 5 * i.val + 80 * c.val + j.val
  omega
/-- The tiles, numbered. -/
def tiles : Fin 2 × Fin 16 ≃ Fin 32 := finProdFinEquiv (m := 2) (n := 16)
/-- The number is the tile's own. -/
theorem tiles_eq (c : Fin 2) (i : Fin 16) : (tiles (c, i)).val = tileNo (coordsV c i) := by
  show i.val + 16 * c.val = 16 * c.val + i.val
  omega

/-- Five pieces, indexed either way. -/
theorem bigSep_five (Φ : ℕ → sProp 𝕄) : (bigSep Finset.univ fun j : Fin 5 => Φ j.val) = bigSep (Finset.range 5) Φ := by
  rw [← Nat.Iio_eq_range, ← Fin.map_valEmbedding_univ, BI.bigSep_map]; rfl

/-- One piece for each of the 160 blocks is five for each tile of each SparseCore. -/
theorem deal (Φ : Fin 160 → sProp 𝕄) :
    bigSep Finset.univ Φ = bigSep Finset.univ fun c : Fin 2 => bigSep Finset.univ fun i : Fin 16 => bigSep (Finset.range 5) fun j => Φ (blk (coordsV c i) j) := by
  rw [bigSep_univ_equiv blocks, bigSep_univ_prod]
  refine bigSep_congr fun c _ => ?_
  rw [bigSep_univ_prod]
  refine bigSep_congr fun i _ => ?_
  rw [← bigSep_five]
  exact bigSep_congr fun j _ => by rw [blocks_eq]

/-- The list is its 160 blocks, -/
theorem xPts_blocks (d : Dev nD) (X : S1x20480.Idx → Elt F .i32) :
    (xLoc d ↦{fullShare} X : sProp 𝕄) = bigSep Finset.univ fun n : Fin 160 => xLoc d ↦[(XW n).view.set]{fullShare} X := by
  rw [← pointsTo_biUnion Finset.univ (ℓ := xLoc d) (fun n => (XW n).view.set) (fun i _ j _ h => by
      rw [set_XW, set_XW]; exact Rect.part_disjoint dvX h),
    (Finset.biUnion_congr rfl fun i _ => set_XW i).trans (Rect.biUnion_part dvX)]
  try rfl
/-- and so is the result. -/
theorem oPts_blocks (d : Dev nD) (f : S20480x128.Idx → Elt F .f32) :
    (oLoc d ↦{fullShare} f : sProp 𝕄) = bigSep Finset.univ fun n : Fin 160 => oLoc d ↦[(OW n).view.set]{fullShare} f := by
  rw [← pointsTo_biUnion Finset.univ (ℓ := oLoc d) (fun n => (OW n).view.set) (fun i _ j _ h => by
      rw [set_OW, set_OW]; exact Rect.part_disjoint dvO h),
    (Finset.biUnion_congr rfl fun i _ => set_OW i).trans (Rect.biUnion_part dvO)]
  try rfl

/-- The share of the table that tile `n` takes. -/
abbrev tq (n : ℕ) : PosShare TreeShare := Transfers.shareTokN fullShare n
/-- What is left of it. -/
abbrev tqRest : PosShare TreeShare := Transfers.shareDrop fullShare 32

/-- The table is a share for each tile and what is left. -/
theorem tPts_shares (d : Dev nD) (T : S100000x128.Idx → Elt F .f32) :
    (tLoc d ↦{fullShare} T : sProp 𝕄) = iprop((tLoc d ↦{tqRest} T) ∗ bigSep Finset.univ fun c : Fin 2 => bigSep Finset.univ fun i : Fin 16 => tLoc d ↦{tq (tileNo (coordsV c i))} T) := by
  rw [BI.Entails.antisymm (Transfers.pointsTo_toks fullShare 32).1 (Transfers.pointsTo_toks fullShare 32).2,
    bigSep_univ_equiv tiles, bigSep_univ_prod]
  refine congrArg (fun R => iprop((tLoc d ↦{tqRest} T) ∗ R)) ?_
  exact bigSep_congr fun c _ => bigSep_congr fun i _ => by rw [Transfers.shareTok, tiles_eq]

/-! ## What the handshakes carry -/

section Pay

variable (Tt : Dev nD → S100000x128.Idx → Elt F .f32) (Xx : Dev nD → S1x20480.Idx → Elt F .i32)

/-- What a tile is handed. -/
def goAt (d : Dev nD) (L : grid0.Coords) : sProp 𝕄 :=
  iprop((bigSep (Finset.range 5) fun j => xLoc d ↦[(XW (blk L j)).view.set]{fullShare} Xx d)
    ∗ (bigSep (Finset.range 5) fun j => iprop(∃ f, oLoc d ↦[(OW (blk L j)).view.set]{fullShare} f))
    ∗ tLoc d ↦{tq (tileNo L)} Tt d)
/-- What a tile hands back. -/
def tdAt (d : Dev nD) (L : grid0.Coords) : sProp 𝕄 :=
  iprop((bigSep (Finset.range 5) fun j => xLoc d ↦[(XW (blk L j)).view.set]{fullShare} Xx d)
    ∗ (bigSep (Finset.range 5) fun j => oLoc d ↦[(OW (blk L j)).view.set]{fullShare} gathered (Tt d) (Xx d))
    ∗ tLoc d ↦{tq (tileNo L)} Tt d)

/-- The call runs on 16 tiles -/
theorem nSub_zero : (K (F := F)).nSub 0 = 16 := rfl
/-- of 2 SparseCores. -/
theorem nCore_zero : (K (F := F)).nCore 0 = 2 := rfl

/-- What a tile is handed can be stored, -/
instance goAt_storable (d : Dev nD) (L : grid0.Coords) : BI.Storable (upEmb : UEmb _ 𝕄) (goAt Tt Xx d L) := by unfold goAt; infer_instance
/-- and so can what it hands back. -/
instance tdAt_storable (d : Dev nD) (L : grid0.Coords) : BI.Storable (upEmb : UEmb _ 𝕄) (tdAt Tt Xx d L) := by unfold tdAt; infer_instance

/-- What tile `i` of SparseCore `c` is handed, -/
def goTo (d : Dev nD) (c : Fin 2) (i : Fin 16) : sProp 𝕄 := goAt Tt Xx d (coordsV c i)
/-- and what it hands back. -/
def tdOf (d : Dev nD) (c : Fin 2) (i : Fin 16) : sProp 𝕄 := tdAt Tt Xx d (coordsV c i)
/-- What tile `i` is handed can be stored, -/
instance goTo_storable (d : Dev nD) (c : Fin 2) (i : Fin 16) : BI.Storable (upEmb : UEmb _ 𝕄) (goTo Tt Xx d c i) := by unfold goTo; infer_instance
/-- and so can what it hands back. -/
instance tdOf_storable (d : Dev nD) (c : Fin 2) (i : Fin 16) : BI.Storable (upEmb : UEmb _ 𝕄) (tdOf Tt Xx d c i) := by unfold tdOf; infer_instance

/-- The one call hands each SparseCore what its tiles take, and gets back what they bring. -/
def P : (K (F := F)).Pay (nD := nD) (Val := Elt F) (Name := ℕ) (U := UU) where
  st := fun q d c => match q with | 0 => bigSep Finset.univ fun i : Fin 16 => goTo Tt Xx d (Fin.cast nCore_zero c) i
  dn := fun q d c => match q with | 0 => bigSep Finset.univ fun i : Fin 16 => tdOf Tt Xx d (Fin.cast nCore_zero c) i
  go := fun q d c i => match q with | 0 => goTo Tt Xx d (Fin.cast nCore_zero c) (Fin.cast nSub_zero i)
  td := fun q d c i => match q with | 0 => tdOf Tt Xx d (Fin.cast nCore_zero c) (Fin.cast nSub_zero i)
  x := fun _ _ => iprop(emp)

/-- Everything that the handshakes carry can be stored. -/
instance P_storable : (P Tt Xx).IsStorable where
  st q d c := match q with
    | 0 => (inferInstance : BI.Storable (upEmb : UEmb _ 𝕄) (bigSep Finset.univ fun i : Fin 16 => goTo Tt Xx d (Fin.cast nCore_zero c) i))
  dn q d c := match q with
    | 0 => (inferInstance : BI.Storable (upEmb : UEmb _ 𝕄) (bigSep Finset.univ fun i : Fin 16 => tdOf Tt Xx d (Fin.cast nCore_zero c) i))
  go q d c i := match q with
    | 0 => (inferInstance : BI.Storable (upEmb : UEmb _ 𝕄) (goTo Tt Xx d (Fin.cast nCore_zero c) (Fin.cast nSub_zero i)))
  td q d c i := match q with
    | 0 => (inferInstance : BI.Storable (upEmb : UEmb _ 𝕄) (tdOf Tt Xx d (Fin.cast nCore_zero c) (Fin.cast nSub_zero i)))

/-- A piece for each tile of the call is one for each of 16, -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- and a piece for each SparseCore one for each of 2. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What a SparseCore takes is what its tiles take, and what they bring is what it brings. -/
theorem vecSplit : (K (F := F)).VecSplit' (P Tt Xx) 0 := by
  intro d c
  show (bigSep Finset.univ fun i : Fin 16 => goTo Tt Xx d (Fin.cast nCore_zero c) i) ⊢ |={Set.univ}=> iprop(
      (bigSep Finset.univ fun i : Fin ((K (F := F)).nSub 0) => goTo Tt Xx d (Fin.cast nCore_zero c) (Fin.cast nSub_zero i))
      ∗ ((bigSep Finset.univ fun i : Fin ((K (F := F)).nSub 0) => tdOf Tt Xx d (Fin.cast nCore_zero c) (Fin.cast nSub_zero i))
          -∗ bigSep Finset.univ fun i : Fin 16 => tdOf Tt Xx d (Fin.cast nCore_zero c) i))
  rw [bigSep_tasks (F := F) (fun i => goTo Tt Xx d (Fin.cast nCore_zero c) i), bigSep_tasks (F := F) (fun i => tdOf Tt Xx d (Fin.cast nCore_zero c) i)]
  iintro H; imodintro
  isplitl [H]; · iexact H
  iintro H; iexact H

/-- What the call takes, all SparseCores at once: the list, the output and the shares of the table. -/
theorem st_of (d : Dev nD) (f : S20480x128.Idx → Elt F .f32) :
    iprop((xLoc d ↦{fullShare} Xx d) ∗ (oLoc d ↦{fullShare} f) ∗ (tLoc d ↦{fullShare} Tt d))
      ⊢ iprop((tLoc d ↦{tqRest} Tt d) ∗ bigSep Finset.univ fun c : Fin ((K (F := F)).nCore 0) => (P Tt Xx).st 0 d c) := by
  have e : (bigSep Finset.univ fun c : Fin ((K (F := F)).nCore 0) => (P Tt Xx).st 0 d c)
      = iprop((bigSep Finset.univ fun c : Fin 2 => bigSep Finset.univ fun i : Fin 16 => bigSep (Finset.range 5) fun j => xLoc d ↦[(XW (blk (coordsV c i) j)).view.set]{fullShare} Xx d)
        ∗ (bigSep Finset.univ fun c : Fin 2 => bigSep Finset.univ fun i : Fin 16 => bigSep (Finset.range 5) fun j => iprop(∃ f, oLoc d ↦[(OW (blk (coordsV c i) j)).view.set]{fullShare} f))
        ∗ (bigSep Finset.univ fun c : Fin 2 => bigSep Finset.univ fun i : Fin 16 => tLoc d ↦{tq (tileNo (coordsV c i))} Tt d)) := by
    refine (bigSep_cores (F := F) (fun c => bigSep Finset.univ fun i : Fin 16 => goTo Tt Xx d c i)).trans ?_
    unfold goTo goAt
    simp only [bigSep_sep']
  rw [e, ← deal (fun n => (xLoc d ↦[(XW n).view.set]{fullShare} Xx d : sProp 𝕄)), ← deal (fun n => iprop(∃ f, oLoc d ↦[(OW n).view.set]{fullShare} f)),
    xPts_blocks, oPts_blocks, tPts_shares]
  iintro ⟨Hx, Ho, Hr, Ht⟩
  isplitl [Hr]; · iexact Hr
  isplitl [Hx]; · iexact Hx
  isplitl [Ho]
  · iapply (show (bigSep Finset.univ fun n : Fin 160 => (oLoc d ↦[(OW n).view.set]{fullShare} f : sProp 𝕄)) ⊢ bigSep Finset.univ fun n : Fin 160 => iprop(∃ f, oLoc d ↦[(OW n).view.set]{fullShare} f) from bigSep_mono (fun n _ => (show (oLoc d ↦[(OW n).view.set]{fullShare} f : sProp 𝕄) ⊢ iprop(∃ f, oLoc d ↦[(OW n).view.set]{fullShare} f) from by
      iintro H; iexists _; iexact H)))
    iexact Ho
  iexact Ht

/-- What the call gives back: the list, the table, and the output gathered. -/
theorem dn_to (d : Dev nD) :
    iprop((tLoc d ↦{tqRest} Tt d) ∗ bigSep Finset.univ fun c : Fin ((K (F := F)).nCore 0) => (P Tt Xx).dn 0 d c)
      ⊢ iprop((xLoc d ↦{fullShare} Xx d) ∗ (oLoc d ↦{fullShare} gathered (Tt d) (Xx d)) ∗ (tLoc d ↦{fullShare} Tt d)) := by
  have e : (bigSep Finset.univ fun c : Fin ((K (F := F)).nCore 0) => (P Tt Xx).dn 0 d c)
      = iprop((bigSep Finset.univ fun c : Fin 2 => bigSep Finset.univ fun i : Fin 16 => bigSep (Finset.range 5) fun j => xLoc d ↦[(XW (blk (coordsV c i) j)).view.set]{fullShare} Xx d)
        ∗ (bigSep Finset.univ fun c : Fin 2 => bigSep Finset.univ fun i : Fin 16 => bigSep (Finset.range 5) fun j => oLoc d ↦[(OW (blk (coordsV c i) j)).view.set]{fullShare} gathered (Tt d) (Xx d))
        ∗ (bigSep Finset.univ fun c : Fin 2 => bigSep Finset.univ fun i : Fin 16 => tLoc d ↦{tq (tileNo (coordsV c i))} Tt d)) := by
    refine (bigSep_cores (F := F) (fun c => bigSep Finset.univ fun i : Fin 16 => tdOf Tt Xx d c i)).trans ?_
    unfold tdOf tdAt
    simp only [bigSep_sep']
  rw [e, ← deal (fun n => (xLoc d ↦[(XW n).view.set]{fullShare} Xx d : sProp 𝕄)), ← deal (fun n => (oLoc d ↦[(OW n).view.set]{fullShare} gathered (Tt d) (Xx d) : sProp 𝕄)),
    xPts_blocks, oPts_blocks, tPts_shares]
  iintro ⟨Hr, Hx, Ho, Ht⟩
  isplitl [Hx]; · iexact Hx
  isplitl [Ho]; · iexact Ho
  isplitl [Hr]; · iexact Hr
  iexact Ht

end Pay

end Cert.Proof.Gather

end
-- ==== Proof.TileBody.lean ====
/-
  A tile's task as the launch sees it: its two scratch buffers and its five semaphores are taken from what the tile owns,
  the task runs, and everything is given back.
-/
module

public import proofs.«01_k».proof.Proof.Task

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Own

variable (d : Dev nD) (L : grid0.Coords)

/-- A tile's counter. -/
abbrev cell (s : DmaSem sig) : GSem nD τ sig := (thr d L, SemLoc.dma s)

/-- A scoped counter is one that the tile owns. -/
theorem cell_mem (s : DmaSem sig) (h : (SemLoc.dma s : SemLoc sig).isScoped .scVector = true) : cell d L s ∈ ownCells (thr d L) :=
  mem_ownCells.mpr ⟨rfl, h⟩
/-- Different semaphores have different counters. -/
theorem cell_ne {s t : DmaSem sig} (h : s ≠ t) : cell d L s ≠ cell d L t := fun e => h (by
  have e' := (Prod.mk.inj e).2
  exact SemLoc.dma.inj e')

/-- The tile's five semaphores are among its own. -/
theorem ownSems0_V :
    (ownSems0 (thr d L) : sProp 𝕄)
      = iprop(semVal (cell d L (semI 0)) 0 ∗ semVal (cell d L (semI 1)) 0 ∗ semVal (cell d L (semO 0)) 0 ∗ semVal (cell d L (semO 1)) 0
          ∗ semVal (cell d L cc0_scoped4.sem) 0
          ∗ bigSep ((((((ownCells (thr d L)).erase (cell d L (semI 0))).erase (cell d L (semI 1))).erase (cell d L (semO 0))).erase (cell d L (semO 1))).erase
              (cell d L cc0_scoped4.sem)) fun g => semVal g 0) := by
  unfold SparseCore.Cfg.ownSems0
  rw [SparseCore.bigSep_erase' (i := cell d L (semI 0)) (cell_mem d L _ (by decide)),
    SparseCore.bigSep_erase' (i := cell d L (semI 1)) (Finset.mem_erase.mpr ⟨cell_ne d L (by decide), cell_mem d L _ (by decide)⟩),
    SparseCore.bigSep_erase' (i := cell d L (semO 0)) (Finset.mem_erase.mpr ⟨cell_ne d L (by decide), Finset.mem_erase.mpr ⟨cell_ne d L (by decide), cell_mem d L _ (by decide)⟩⟩),
    SparseCore.bigSep_erase' (i := cell d L (semO 1)) (Finset.mem_erase.mpr ⟨cell_ne d L (by decide), Finset.mem_erase.mpr ⟨cell_ne d L (by decide),
      Finset.mem_erase.mpr ⟨cell_ne d L (by decide), cell_mem d L _ (by decide)⟩⟩⟩),
    SparseCore.bigSep_erase' (i := cell d L cc0_scoped4.sem) (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L _ (by decide)⟩⟩⟩⟩)]

/-- The list's scratch -/
abbrev iRef : Ref sig .scVector := cc0_scoped0
/-- and the rows'. -/
abbrev rRef : Ref sig .scVector := cc0_scoped2

/-- The tile's two scratch buffers are among its own. -/
theorem ownBufs_V :
    (ownBufs (thr d L) : sProp 𝕄)
      = iprop((∃ f, (thr d L).loc iRef ↦{fullShare} f) ∗ (∃ f, (thr d L).loc rRef ↦{fullShare} f)
          ∗ bigSep (((ownRefs (τ := τ) (.scVector (cV L) (jV L))).erase ((Proc.scVector (cV L) (jV L)).devRef iRef)).erase
              ((Proc.scVector (cV L) (jV L)).devRef rRef))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef iRef) rfl)).trans ?_
  rw [SparseCore.bigSep_erase' (Finset.mem_erase.mpr ⟨fun e => absurd (Proc.devRef_injective _ e) (show (rRef : Ref sig .scVector) ≠ iRef by decide),
    SparseCore.Cfg.mem_ownRefs_of_owner (p := Proc.scVector (cV L) (jV L)) (b := (Proc.scVector (cV L) (jV L)).devRef rRef) rfl⟩)]

/-- A piece for each of two. -/
theorem two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- A scratch buffer is its two slots. -/
theorem slotsI (f : Buf (Elt F) ((thr d L).loc iRef)) :
    ((thr d L).loc iRef ↦{fullShare} f : sProp 𝕄) = iprop(slotI d L 0 f ∗ slotI d L 1 f) := by
  rw [← two (fun s => slotI d L s f), ← pointsTo_biUnion Finset.univ (ℓ := (thr d L).loc iRef) (fun s => (IW s).view.set) (fun i _ j _ h => by
      rw [set_IW, set_IW]; exact Rect.part_disjoint dvI h),
    (Finset.biUnion_congr rfl fun i _ => set_IW i).trans (Rect.biUnion_part dvI)]
  try rfl
/-- The rows' scratch is its two slots, too. -/
theorem slotsR (f : Buf (Elt F) ((thr d L).loc rRef)) :
    ((thr d L).loc rRef ↦{fullShare} f : sProp 𝕄) = iprop(slotR d L 0 f ∗ slotR d L 1 f) := by
  rw [← two (fun s => slotR d L s f), ← pointsTo_biUnion Finset.univ (ℓ := (thr d L).loc rRef) (fun s => (RW s).view.set) (fun i _ j _ h => by
      rw [set_RW, set_RW]; exact Rect.part_disjoint dvR h),
    (Finset.biUnion_congr rfl fun i _ => set_RW i).trans (Rect.biUnion_part dvR)]
  try rfl

/-- Two slots of the list's scratch, at anything, are the scratch, -/
theorem slotsI_join :
    iprop((∃ f, slotI d L 0 f) ∗ (∃ f, slotI d L 1 f)) ⊢ (iprop(∃ f, (thr d L).loc iRef ↦{fullShare} f) : sProp 𝕄) := by
  iintro ⟨⟨%f0, H0⟩, %f1, H1⟩
  let fs : Fin 2 → Buf (Elt F) ((thr d L).loc iRef) := fun s => match s with | 0 => f0 | 1 => f1
  ihave H := (show iprop(slotI d L 0 f0 ∗ slotI d L 1 f1) ⊢ bigSep Finset.univ (fun s : Fin 2 => slotI d L s (fs s)) from
    le_of_eq (two (fun s => slotI d L s (fs s))).symm) $$ [H0 H1]
  · isplitl [H0]; · iexact H0
    iexact H1
  ihave H' := (pointsTo_biUnion_join (ℓ := (thr d L).loc iRef) (q := fullShare) (Val := Elt F) Finset.univ (fun s : Fin 2 => (IW s).view.set) fs (fs 0) (fun i _ j _ h => by
      rw [set_IW, set_IW]; exact Rect.part_disjoint dvI h)) $$ H
  icases H' with ⟨%g, -, Hg⟩
  rw [(Finset.biUnion_congr rfl fun i _ => set_IW i).trans (Rect.biUnion_part dvI)]
  iexists g; iexact Hg
/-- and so with the rows'. -/
theorem slotsR_join :
    iprop((∃ f, slotR d L 0 f) ∗ (∃ f, slotR d L 1 f)) ⊢ (iprop(∃ f, (thr d L).loc rRef ↦{fullShare} f) : sProp 𝕄) := by
  iintro ⟨⟨%f0, H0⟩, %f1, H1⟩
  let fs : Fin 2 → Buf (Elt F) ((thr d L).loc rRef) := fun s => match s with | 0 => f0 | 1 => f1
  ihave H := (show iprop(slotR d L 0 f0 ∗ slotR d L 1 f1) ⊢ bigSep Finset.univ (fun s : Fin 2 => slotR d L s (fs s)) from
    le_of_eq (two (fun s => slotR d L s (fs s))).symm) $$ [H0 H1]
  · isplitl [H0]; · iexact H0
    iexact H1
  ihave H' := (pointsTo_biUnion_join (ℓ := (thr d L).loc rRef) (q := fullShare) (Val := Elt F) Finset.univ (fun s : Fin 2 => (RW s).view.set) fs (fs 0) (fun i _ j _ h => by
      rw [set_RW, set_RW]; exact Rect.part_disjoint dvR h)) $$ H
  icases H' with ⟨%g, -, Hg⟩
  rw [(Finset.biUnion_congr rfl fun i _ => set_RW i).trans (Rect.biUnion_part dvR)]
  iexists g; iexact Hg

end Own

variable [FloatOps F] (Tt : Dev nD → S100000x128.Idx → Elt F .f32) (Xx : Dev nD → S1x20480.Idx → Elt F .i32)

set_option maxHeartbeats 2000000 in
/-- The tile's task, from what the call hands it to what it hands back. -/
theorem tile_body (d : Dev nD) (L : grid0.Coords) (hX : ∀ x, (Xx d x).toNat < 100000) (O : CellTallies nD τ sig (HIx 1)) (W : Waits sig (HIx 1)) (hO : ∀ g, O g none = 0) :
    iprop(levAts (K (F := F)).L (K (F := F)).lev ∗ emp ∗ goAt Tt Xx d L ∗ scopedBufs (thr d L) ∗ scopedSems0 (thr d L) ∗ owes (thr d L) O W)
      ⊢ wp frame (wpE (defs₀ (F := F)) 𝒱₀ (thr d L) none) Set.univ
          (cc0_gather_kernel L (Memref.whole main_v2_scv) (Memref.isWhole_whole _) (Memref.whole main_v1_scv) (Memref.isWhole_whole _)
            (Memref.whole main_v3_scv) (Memref.isWhole_whole _) (Memref.whole cc0_scoped0) (Memref.isWhole_whole _) cc0_scoped1
            (Memref.whole cc0_scoped2) (Memref.isWhole_whole _) cc0_scoped3 cc0_scoped4)
          fun _ => iprop(tdAt Tt Xx d L ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  unfold goAt tdAt
  iintro ⟨#Hlv, -, ⟨Hx, Ho, Ht⟩, ⟨⟨%fi, Hi⟩, ⟨%fr, Hr⟩, Hbufs⟩, ⟨Hs0, Hs1, Hs2, Hs3, Hs4, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (show _ ⊢ iprop(slotI d L 0 fi ∗ slotI d L 1 fi) from le_of_eq (slotsI (F := F) d L fi)) $$ Hi
  ihave Hr' := (show _ ⊢ iprop(slotR d L 0 fr ∗ slotR d L 1 fr) from le_of_eq (slotsR (F := F) d L fr)) $$ Hr
  icases Hi' with ⟨Hi0, Hi1⟩
  icases Hr' with ⟨Hr0, Hr1⟩
  ihave Hts := (pointsTo_split_subset (q := tq (tileNo L)) (f := Tt d) (ℓ := tLoc d) (S := Finset.univ) (Finset.subset_univ TW.view.set)).1 $$ Ht
  icases Hts with ⟨Ht, Htr⟩
  iapply (wp_wand _ _ _) $$ [Hmw Hi0 Hi1 Hr0 Hr1 Hs0 Hs1 Hs2 Hs3 Hs4 Hx Ho Ht HO]
  · iapply (tile_run d L (Tt d) (Xx d) (tq (tileNo L)) O W hX)
    isplitl [Hmw]; · iexact Hmw
    isplitl [Hi0 Hs0]
    · isplitl [Hi0]; · iexists _; iexact Hi0
      iexact Hs0
    isplitl [Hi1 Hs1]
    · isplitl [Hi1]; · iexists _; iexact Hi1
      iexact Hs1
    isplitl [Hr0 Hs2]
    · isplitl [Hr0]; · iexists _; iexact Hr0
      iexact Hs2
    isplitl [Hr1 Hs3]
    · isplitl [Hr1]; · iexists _; iexact Hr1
      iexact Hs3
    isplitl [Hx]; · iexact Hx
    isplitl [Ho]
    · unfold todo; rw [show Finset.Ico 0 5 = Finset.range 5 by decide]; iexact Ho
    isplitl [Ht]; · iexact Ht
    isplitl [Hs4]; · iexact Hs4
    iexact HO
  iintro %u ⟨⟨Hi0, Hs0⟩, ⟨Hi1, Hs1⟩, ⟨Hr0, Hs2⟩, ⟨Hr1, Hs3⟩, Hx, Ho, Ht, Hs4, HO⟩
  isplitl [Hx Ho Ht Htr]
  · isplitl [Hx]; · iexact Hx
    isplitl [Ho]; · unfold done; iexact Ho
    iapply (pointsTo_split_subset (q := tq (tileNo L)) (f := Tt d) (ℓ := tLoc d) (S := Finset.univ) (Finset.subset_univ TW.view.set)).2
    isplitl [Ht]; · iexact Ht
    iexact Htr
  isplitl [Hi0 Hi1 Hr0 Hr1 Hbufs]
  · isplitl [Hi0 Hi1]
    · iapply (slotsI_join d L)
      isplitl [Hi0] <;> iassumption
    isplitl [Hr0 Hr1]
    · iapply (slotsR_join d L)
      isplitl [Hr0] <;> iassumption
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexact HO

/-- A tile's part of the call is the gather's body at the tile's coordinates. -/
theorem defs₀_vector (c : Fin τ.nSC) (s : Fin τ.nSub) :
    defs₀ (F := F) (.scVector c s) 0 ()
      = SparseCore.onTile hcore0 hsub0 (fun c s => cc0_gather_kernel (coordsV c s) (Memref.whole main_v2_scv) (Memref.isWhole_whole _) (Memref.whole main_v1_scv) (Memref.isWhole_whole _)
            (Memref.whole main_v3_scv) (Memref.isWhole_whole _) (Memref.whole cc0_scoped0) (Memref.isWhole_whole _) cc0_scoped1
            (Memref.whole cc0_scoped2) (Memref.isWhole_whole _) cc0_scoped3 cc0_scoped4) ⟨⟩ c s := rfl

omit [FloatOps F] in
/-- What the tile ends with, its record of waits put as the call asks. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile does what the call asks of it. -/
theorem tileObl (hX : ∀ d x, (Xx d x).toNat < 100000) : (K (F := F)).TileObl (D (F := F)) 𝒱 (P Tt Xx) v₀ 0 := by
  intro d c i O W hO _ _
  simp only [show (P Tt Xx).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Tt Xx d (coordsV ⟨_, hci.1⟩ ⟨_, hci.2⟩) (hX d) O W hO).trans (wp_mono frame _ _ fun _ => obl_post)

end Cert.Proof.Gather

end
-- ==== Proof.WriteBody.lean ====
/-
  The second TensorCore kernel of the program, `write`: its body at one grid point, and the proof data of its pipeline over
  whatever contents the region finds in its arrays.
-/
module

public import proofs.«01_k».proof.Proof.Task
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit.Basic
public import Idealize.ShloMosaic.Lib.Claim
public import Idealize.ShloMosaic.Lib.Ring
public import Idealize.ShloMosaic.Lib.Tactic

@[expose] public section

set_option maxRecDepth 16384

noncomputable section

namespace Cert.Proof.Write

open Cert.KernelIdeal Cert.KernelIdeal.Gen
open Cert.Proof.Gather (UU)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 1) (Elt F) ℕ UU ℕ

/-- Window `w`'s block at point `t`, read off its array as the region finds it (`V`). -/
def blkAt (V : Valuation τ sig (Elt F)) (w : Fin cfg2.W) (t : Fin cfg2.N) : ((cfg2.win w).xblock (cfg2.grid.coords t)).Idx → Elt F (cfg2.win w).elt :=
  ((cfg2.win w).blk t).view.read (Elt F) (V (Proc.devRef .tc (Pipeline.arrRef spec2 w)))

/-- The pairs of an own cell and an index that the TensorCore may have recorded waits at: all at or below level 8. -/
def seen (F : FTy → Type) (c : Dev nD) : Set (SemLoc sig × HIx 1) := {p | (Gather.K (F := F)).lev ((c : Thread nD τ), p.1) p.2 ≤ 8}

set_option maxHeartbeats 1000000 in
/-- The body, on whole staging buffers: the inputs' at their contents, the output's at anything. It leaves the inputs' as
    they were and the output's at the tile of logits less the log-sum-exp. -/
theorem body_run (c : Dev nD) (E : Set ℕ) (i : grid2.Coords) (arg1 : Memref sig .tc .vmem S1024x128 .bf16) (harg1 : arg1.IsWhole) (arg2 : Memref sig .tc .vmem S1024x128 .f32) (harg2 : arg2.IsWhole) (arg3 : Memref sig .tc .vmem S2000x128 .f32) (harg3 : arg3.IsWhole) (arg4 : Memref sig .tc .vmem S1x1x2000 .f32) (harg4 : arg4.IsWhole) (arg5 : Memref sig .tc .vmem S1024x1x1x2000 .f32) (harg5 : arg5.IsWhole)
    (x0 : Vec F S1024x128 .bf16) (x1 : Vec F S1024x128 .f32) (x2 : Vec F S2000x128 .f32) (x3 : Vec F S1x1x2000 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k2_pay1 x2 x0 x3 x1)) -∗ Q ⟨⟩))
      ⊢ wp frame (wpE (defs₀ (F := F)) Variants.none c none) E (cc2__write_kernel i arg1 harg1 arg2 harg2 arg3 harg3 arg4 harg4 arg5 harg5) Q := by
  simp only [cc2__write_kernel_eq_skeleton]; unfold cc2__write_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (fun y => View.cover_of_tiled _ S1024x1x1x2000.size (by rfl) y)).trans ?_
  refine (View.canon_cons_unit_lit (S := S1024x1x1x2000) inb_S1024x1x1x2000_S1024x1x1x2000_0_0_0_0 _ [] (by decide)).trans ?_
  exact congr (congr (congr (congrArg k2_pay1 (View.ld_unit_lit (S := S2000x128) inb_S2000x128_S2000x128_0_0 _ (by decide))) (View.ld_unit_lit (S := S1024x128) inb_S1024x128_S1024x128_0_0 _ (by decide)))
    (View.ld_unit_lit (S := S1x1x2000) inb_S1x1x2000_S1x1x2000_0_0_0 _ (by decide))) (View.ld_unit_lit (S := S1024x128) inb_S1024x128_S1024x128_0_0 _ (by decide))

/-- The proof data of the pipeline over arrays found at `V`: after the body at point `t` each input's buffer is at its block
    and the output's at its tile; the buffers no window stages pass through; nothing is owed. -/
def data (V : Valuation τ sig (Elt F)) (c : Dev nD) : Dat τ (Elt F) (HIx 1) ℕ UU ℕ cfg2 c where
  A w := V (Proc.devRef .tc (Pipeline.arrRef spec2 w))
  after w t := match w with
    | ⟨0, _⟩ => blkAt V 0 t
    | ⟨1, _⟩ => blkAt V 1 t
    | ⟨2, _⟩ => blkAt V 2 t
    | ⟨3, _⟩ => blkAt V 3 t
    | ⟨4, _⟩ => k2_pay1 (blkAt V 2 t) (blkAt V 0 t) (blkAt V 3 t) (blkAt V 1 t)
  Φ _ := Pipeline.scopedRest spec2 c
  q _ := fullShare
  owed _ := 0
  recorded _ := seen F c

variable (V : Valuation τ sig (Elt F)) (c : Dev nD)

/-- A window's array is what the region found in it. -/
theorem A_eq (w : Fin cfg2.W) : (data V c).A w = V (Proc.devRef .tc (Pipeline.arrRef spec2 w)) := by dsimp only [data]
/-- The body leaves the window on the hidden layer at its block. -/
theorem after0 (t : Fin cfg2.N) : (data V c).after 0 t = blkAt V 0 t := by dsimp only [data]
/-- The body leaves the window on the log-sum-exp at its block. -/
theorem after1 (t : Fin cfg2.N) : (data V c).after 1 t = blkAt V 1 t := by dsimp only [data]
/-- The body leaves the window on the second layer's matrix at its block. -/
theorem after2 (t : Fin cfg2.N) : (data V c).after 2 t = blkAt V 2 t := by dsimp only [data]
/-- The body leaves the window on the second layer's bias at its block. -/
theorem after3 (t : Fin cfg2.N) : (data V c).after 3 t = blkAt V 3 t := by dsimp only [data]
/-- The body leaves the tile of the result in its window. -/
theorem after4 (t : Fin cfg2.N) : (data V c).after 4 t = k2_pay1 (blkAt V 2 t) (blkAt V 0 t) (blkAt V 3 t) (blkAt V 1 t) := by dsimp only [data]

/-! Each input's staging buffer holds its block at every point. -/

/-- The window on the hidden layer holds its block when the body starts. -/
theorem before0 (t : Fin cfg2.N) (d) : (data V c).before 0 t d = blkAt V 0 t :=
  ((data V c).before_in_eq_fetched 0 rfl (fun _ => rfl) (fun _ _ _ => rfl) (fun t => by rw [after0]; unfold Dat.blockOf blkAt; rw [A_eq]; try rfl) t d).trans
    (by unfold Dat.fetched Dat.blockOf blkAt; rw [A_eq]; try rfl)
/-- The window on the log-sum-exp holds its block when the body starts. -/
theorem before1 (t : Fin cfg2.N) (d) : (data V c).before 1 t d = blkAt V 1 t :=
  ((data V c).before_in_eq_fetched 1 rfl (fun _ => rfl) (fun _ _ _ => rfl) (fun t => by rw [after1]; unfold Dat.blockOf blkAt; rw [A_eq]; try rfl) t d).trans
    (by unfold Dat.fetched Dat.blockOf blkAt; rw [A_eq]; try rfl)
/-- The window on the second layer's matrix holds its block when the body starts. -/
theorem before2 (t : Fin cfg2.N) (d) : (data V c).before 2 t d = blkAt V 2 t :=
  ((data V c).before_in_eq_fetched 2 rfl (fun _ => rfl) (fun _ _ _ => rfl) (fun t => by rw [after2]; unfold Dat.blockOf blkAt; rw [A_eq]; try rfl) t d).trans
    (by unfold Dat.fetched Dat.blockOf blkAt; rw [A_eq]; try rfl)
/-- The window on the second layer's bias holds its block when the body starts. -/
theorem before3 (t : Fin cfg2.N) (d) : (data V c).before 3 t d = blkAt V 3 t :=
  ((data V c).before_in_eq_fetched 3 rfl (fun _ => rfl) (fun _ _ _ => rfl) (fun t => by rw [after3]; unfold Dat.blockOf blkAt; rw [A_eq]; try rfl) t d).trans
    (by unfold Dat.fetched Dat.blockOf blkAt; rw [A_eq]; try rfl)

/-- What the body is called with at a point, the windows one by one, -/
def pre (t : Fin cfg2.N) : sProp 𝕄 :=
  iprop((data V c).Φ t.castSucc ∗ (data V c).owesAt none t.castSucc
    ∗ (∃ d, owns (c : Thread nD τ) (st2_0 t) fullShare ((data V c).before 0 t d))
    ∗ (∃ d, owns (c : Thread nD τ) (st2_1 t) fullShare ((data V c).before 1 t d))
    ∗ (∃ d, owns (c : Thread nD τ) (st2_2 t) fullShare ((data V c).before 2 t d))
    ∗ (∃ d, owns (c : Thread nD τ) (st2_3 t) fullShare ((data V c).before 3 t d))
    ∗ (∃ d, owns (c : Thread nD τ) (st2_4 t) fullShare ((data V c).before 4 t d)))

/-- and what it returns. -/
def post (t : Fin cfg2.N) : sProp 𝕄 :=
  iprop((data V c).Φ t.succ ∗ (data V c).owesAt none t.succ
    ∗ owns (c : Thread nD τ) (st2_0 t) fullShare ((data V c).after 0 t)
    ∗ owns (c : Thread nD τ) (st2_1 t) fullShare ((data V c).after 1 t)
    ∗ owns (c : Thread nD τ) (st2_2 t) fullShare ((data V c).after 2 t)
    ∗ owns (c : Thread nD τ) (st2_3 t) fullShare ((data V c).after 3 t)
    ∗ owns (c : Thread nD τ) (st2_4 t) fullShare ((data V c).after 4 t))

/-- The body at any point. -/
theorem point_run (t : Fin cfg2.N) :
    pre V c t ⊢ wp frame (wpE (defs₀ (F := F)) Variants.none c none) Set.univ (bodyAt2 t) (fun _ => post V c t) := by
  unfold pre post bodyAt2
  simp only [before0, before1, before2, before3]
  rw [show (data V c).Φ t.succ = (data V c).Φ t.castSucc from rfl,
    show (data V c).owesAt none t.succ = (data V c).owesAt none t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_run c Set.univ (grid2.coords t) _ _ _ _ _ _ _ _ _ _ (blkAt V 0 t) (blkAt V 1 t) (blkAt V 2 t) (blkAt V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The kernel's body at a point is the printed one. -/
theorem row (t : Fin cfg2.N) : defs₀ (F := F) .tc cfg2.body (cfg2.bodyArgs t (cfg2.slots t)) = bodyAt2 t := by
  rfl

/-- What the pipeline asks of the body, at every point. -/
theorem obligation : BodyObligation (data V c) (defs₀ (F := F)) Variants.none none Set.univ := fun t => by
  rw [bigSep_W2, bigSep_W2, row]
  exact triple_restated (point_run V c t) rfl .rfl fun _ => .rfl

end Cert.Proof.Write

end
-- ==== Proof.StatsRun.lean ====
/-
  The first TensorCore kernel of the program, `stats`: its body at one grid point, in its three cases. At the first point it
  makes the hidden layer and clears the running maximum and the running sum; at every point it takes one tile of logits
  into the two; at the last it writes the hidden layer and the log-sum-exp out.
-/
module

public import proofs.«01_k».proof.Proof.WriteBody
public import Idealize.ShloMosaic.Lib.Pipeline.ValueKit.Acc

@[expose] public section

set_option maxRecDepth 16384

noncomputable section

namespace Cert.Proof.Stats

open Cert.KernelIdeal Cert.KernelIdeal.Gen
open Cert.Proof.Gather (UU)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 1) (Elt F) ℕ UU ℕ

/-- The body is at the first point, -/
abbrev AtFirst (i : grid1.Coords) : Prop := (Scalar.cmpi .ne (Scalar.extui (Scalar.cmpi .eq (BitVec.ofNat 32 (i 0).val) 0#32)) 0#32) = 1#1
/-- or at the last. -/
abbrev AtLast (i : grid1.Coords) : Prop := k1_cond2 i = 1#1

/-- The running maximum after a tile of logits, -/
abbrev nextM (w : Vec F S2000x128 .f32) (h : Vec F S1024x128 .bf16) (b : Vec F S1x1x2000 .f32) (m : Vec F S1024x1 .f32) : Vec F S1024x1 .f32 := k1_pay8 w h b m
/-- and the running sum. -/
abbrev nextS (w : Vec F S2000x128 .f32) (h : Vec F S1024x128 .bf16) (b : Vec F S1x1x2000 .f32) (m s : Vec F S1024x1 .f32) : Vec F S1024x1 .f32 := k1_pay7 w h b m s m

/-! Loads and stores of whole buffers. -/

/-- After a store to a whole buffer the buffer reads as what was stored. -/
theorem put {S : Shape} {e : EltTy} (v : View sig .tc .vmem S e) (f) (x : S.Idx → Elt F e) (L : List (View.Piece (Elt F) S e)) {off : Fin S.rank → ℕ}
    (inb : ∀ a, off a + S.size a ≤ S.size a) (h : ∀ a, off a = 0) :
    v.read (Elt F) (v.writes (Elt F) f (⟨Rect.unit off S.size inb, x⟩ :: L)) = x := by
  obtain rfl := View.eq_zero_of_forall h
  exact (View.read_writes_eq_canon _ _ _ (fun y => ⟨_, List.mem_cons_self, by
    show y ∈ (Rect.whole S).set; rw [Rect.set_whole]; exact Finset.mem_univ y⟩)).trans
    (View.canon_cons_unit_zero rfl inb x L)

/-- A load of a whole buffer reads the buffer. -/
theorem get {S : Shape} {e : EltTy} (v : View sig .tc .vmem S e) (f) {off : Fin S.rank → ℕ}
    (inb : ∀ a, off a + S.size a ≤ S.size a) (h : ∀ a, off a = 0) :
    v.readAt (Elt F) (Rect.unit off S.size inb).toLoadRect f = v.read (Elt F) f := View.ld_unit_lit inb _ h

/-- A load of the hidden layer's scratch after a store to it gives what was stored, -/
theorem back_h (v : View sig .tc .vmem S1024x128 .bf16) (x) (L : List (View.Piece (Elt F) S1024x128 .bf16)) :
    v.readCov ((⟨Rect.unit ![0, 0] S1024x128.size inb_S1024x128_S1024x128_0_0, x⟩ : View.Piece (Elt F) S1024x128 .bf16) :: L)
      (Rect.unit ![0, 0] S1024x128.size inb_S1024x128_S1024x128_0_0).toLoadRect = x :=
  View.readCov_cons_unit_lit' v _ _ x L (by decide) (by decide)
/-- and so does a load of the running maximum's or sum's. -/
theorem back_m (v : View sig .tc .vmem S1024x1 .f32) (x) (L : List (View.Piece (Elt F) S1024x1 .f32)) :
    v.readCov ((⟨Rect.unit ![0, 0] S1024x1.size inb_S1024x1_S1024x1_0_0, x⟩ : View.Piece (Elt F) S1024x1 .f32) :: L)
      (Rect.unit ![0, 0] S1024x1.size inb_S1024x1_S1024x1_0_0).toLoadRect = x :=
  View.readCov_cons_unit_lit' v _ _ x L (by decide) (by decide)
/-- A load of the gathered rows, -/
theorem get_g (v : View sig .tc .vmem S20480x128 .f32) (f) :
    v.readAt (Elt F) (Rect.unit ![0, 0] S20480x128.size inb_S20480x128_S20480x128_0_0).toLoadRect f = v.read (Elt F) f := get v f _ (by decide)
/-- of the first layer's matrix, -/
theorem get_w1 (v : View sig .tc .vmem S128x128 .f32) (f) :
    v.readAt (Elt F) (Rect.unit ![0, 0] S128x128.size inb_S128x128_S128x128_0_0).toLoadRect f = v.read (Elt F) f := get v f _ (by decide)
/-- of its bias, -/
theorem get_b1 (v : View sig .tc .vmem S1x128 .f32) (f) :
    v.readAt (Elt F) (Rect.unit ![0, 0] S1x128.size inb_S1x128_S1x128_0_0).toLoadRect f = v.read (Elt F) f := get v f _ (by decide)
/-- of a tile of the second layer's matrix, -/
theorem get_w2 (v : View sig .tc .vmem S2000x128 .f32) (f) :
    v.readAt (Elt F) (Rect.unit ![0, 0] S2000x128.size inb_S2000x128_S2000x128_0_0).toLoadRect f = v.read (Elt F) f := get v f _ (by decide)
/-- of a tile of its bias, -/
theorem get_b2 (v : View sig .tc .vmem S1x1x2000 .f32) (f) :
    v.readAt (Elt F) (Rect.unit ![0, 0, 0] S1x1x2000.size inb_S1x1x2000_S1x1x2000_0_0_0).toLoadRect f = v.read (Elt F) f := get v f _ (by decide)
/-- of the hidden layer -/
theorem get_h (v : View sig .tc .vmem S1024x128 .bf16) (f) :
    v.readAt (Elt F) (Rect.unit ![0, 0] S1024x128.size inb_S1024x128_S1024x128_0_0).toLoadRect f = v.read (Elt F) f := get v f _ (by decide)
/-- and of the running maximum or sum. -/
theorem get_m (v : View sig .tc .vmem S1024x1 .f32) (f) :
    v.readAt (Elt F) (Rect.unit ![0, 0] S1024x1.size inb_S1024x1_S1024x1_0_0).toLoadRect f = v.read (Elt F) f := get v f _ (by decide)

set_option maxHeartbeats 1000000 in
/-- The body between the first point and the last: one tile of logits goes into the running maximum and sum. -/
theorem run_middle (c : Dev nD) (E : Set ℕ) (i : grid1.Coords) (arg1 : Memref sig .tc .vmem S20480x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x1x2000 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .bf16) (harg8 : arg8.IsWhole) (arg9 : Memref sig .tc .vmem S1024x1 .f32) (harg9 : arg9.IsWhole) (arg10 : Memref sig .tc .vmem S1024x1 .f32) (harg10 : arg10.IsWhole)
    (hc0 : ¬ AtFirst i) (hc1 : ¬ AtLast i)
    (x3 : Vec F S2000x128 .f32) (x4 : Vec F S1x1x2000 .f32) (h : Vec F S1024x128 .bf16) (m s : Vec F S1024x1 .f32) (Q : PUnit → sProp 𝕄) :
    iprop(owns (c : Thread nD τ) arg4 fullShare x3 ∗ owns (c : Thread nD τ) arg5 fullShare x4
        ∗ owns (c : Thread nD τ) arg8 fullShare h ∗ owns (c : Thread nD τ) arg9 fullShare m ∗ owns (c : Thread nD τ) arg10 fullShare s
        ∗ (iprop(owns (c : Thread nD τ) arg4 fullShare x3 ∗ owns (c : Thread nD τ) arg5 fullShare x4
            ∗ owns (c : Thread nD τ) arg8 fullShare h ∗ owns (c : Thread nD τ) arg9 fullShare (nextM x3 h x4 m)
            ∗ owns (c : Thread nD τ) arg10 fullShare (nextS x3 h x4 m s)) -∗ Q ⟨⟩))
      ⊢ wp frame (wpE (defs₀ (F := F)) Variants.none c none) E (cc1__stats_kernel i arg1 harg1 arg2 harg2 arg3 harg3 arg4 harg4 arg5 harg5 arg6 harg6 arg7 harg7 arg8 harg8 arg9 harg9 arg10 harg10) Q := by
  simp only [cc1__stats_kernel_eq_skeleton]; unfold cc1__stats_kernel_skel
  simp only [k1_part1_eq_skeleton]
  unfold owns
  iintro ⟨⟨%f3, %hf3, H3⟩, ⟨%f4, %hf4, H4⟩, ⟨%f8, %hf8, H8⟩, ⟨%f9, %hf9, H9⟩, ⟨%f10, %hf10, H10⟩, Hk⟩
  subst hf3 hf4 hf8 hf9 hf10
  sl_exec (disch := first | sl_exact hc0 | sl_exact hc1)
  sl_step
  iapply Hk
  isplitl [H3]
  · iexists f3; isplitr; · ipureintro; rfl
    iexact H3
  isplitl [H4]
  · iexists f4; isplitr; · ipureintro; rfl
    iexact H4
  isplitl [H8]
  · iexists f8; isplitr; · ipureintro; rfl
    iexact H8
  isplitl [H9]
  · iexists _; isplitr
    swap; · iexact H9
    ipureintro
    refine (put _ _ _ _ _ (by decide)).trans ?_
    rw [get_w2, get_h, get_b2, get_m]
  iexists _; isplitr
  swap; · iexact H10
  ipureintro
  refine (put _ _ _ _ _ (by decide)).trans ?_
  rw [get_w2, get_h, get_b2, get_m, get_m]

set_option maxHeartbeats 1000000 in
/-- The body at the last point: the same, and the hidden layer and the log-sum-exp are written out. -/
theorem run_last (c : Dev nD) (E : Set ℕ) (i : grid1.Coords) (arg1 : Memref sig .tc .vmem S20480x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x1x2000 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .bf16) (harg8 : arg8.IsWhole) (arg9 : Memref sig .tc .vmem S1024x1 .f32) (harg9 : arg9.IsWhole) (arg10 : Memref sig .tc .vmem S1024x1 .f32) (harg10 : arg10.IsWhole)
    (hc0 : ¬ AtFirst i) (hc1 : AtLast i)
    (x3 : Vec F S2000x128 .f32) (x4 : Vec F S1x1x2000 .f32) (h : Vec F S1024x128 .bf16) (m s : Vec F S1024x1 .f32) (Q : PUnit → sProp 𝕄) :
    iprop(owns (c : Thread nD τ) arg4 fullShare x3 ∗ owns (c : Thread nD τ) arg5 fullShare x4 ∗ (∃ d, owns (c : Thread nD τ) arg6 fullShare d) ∗ (∃ d, owns (c : Thread nD τ) arg7 fullShare d)
        ∗ owns (c : Thread nD τ) arg8 fullShare h ∗ owns (c : Thread nD τ) arg9 fullShare m ∗ owns (c : Thread nD τ) arg10 fullShare s
        ∗ (iprop(owns (c : Thread nD τ) arg4 fullShare x3 ∗ owns (c : Thread nD τ) arg5 fullShare x4
            ∗ owns (c : Thread nD τ) arg6 fullShare h ∗ owns (c : Thread nD τ) arg7 fullShare (k1_pay1 (nextM x3 h x4 m) (nextS x3 h x4 m s))
            ∗ owns (c : Thread nD τ) arg8 fullShare h ∗ owns (c : Thread nD τ) arg9 fullShare (nextM x3 h x4 m)
            ∗ owns (c : Thread nD τ) arg10 fullShare (nextS x3 h x4 m s)) -∗ Q ⟨⟩))
      ⊢ wp frame (wpE (defs₀ (F := F)) Variants.none c none) E (cc1__stats_kernel i arg1 harg1 arg2 harg2 arg3 harg3 arg4 harg4 arg5 harg5 arg6 harg6 arg7 harg7 arg8 harg8 arg9 harg9 arg10 harg10) Q := by
  simp only [cc1__stats_kernel_eq_skeleton]; unfold cc1__stats_kernel_skel
  simp only [k1_part1_eq_skeleton]
  unfold owns
  iintro ⟨⟨%f3, %hf3, H3⟩, ⟨%f4, %hf4, H4⟩, ⟨%d6, %f6, -, H6⟩, ⟨%d7, %f7, -, H7⟩, ⟨%f8, %hf8, H8⟩, ⟨%f9, %hf9, H9⟩, ⟨%f10, %hf10, H10⟩, Hk⟩
  subst hf3 hf4 hf8 hf9 hf10
  sl_exec (disch := first | sl_exact hc0 | sl_exact hc1)
  sl_step
  iapply Hk
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (put _ _ _ _ _ (by decide)).trans ?_
    rw [get_h]
  isplitl [H7]
  · iexists _; isplitr
    swap; · iexact H7
    ipureintro
    refine (put _ _ _ _ _ (by decide)).trans ?_
    unfold run_last.sl.v38 run_last.sl.v39
    unfold run_last.sl.H9_1 run_last.sl.H10_1
    rw [back_m, back_m]
    rw [get_w2, get_h, get_b2, get_m, get_m]
  isplitl [H8]
  · iexists f8; isplitr; · ipureintro; rfl
    iexact H8
  isplitl [H9]
  · iexists _; isplitr
    swap; · iexact H9
    ipureintro
    refine (put _ _ _ _ _ (by decide)).trans ?_
    rw [get_w2, get_h, get_b2, get_m]
  iexists _; isplitr
  swap; · iexact H10
  ipureintro
  refine (put _ _ _ _ _ (by decide)).trans ?_
  rw [get_w2, get_h, get_b2, get_m, get_m]

set_option maxHeartbeats 1000000 in
/-- The body at the first point: the hidden layer is made and the two running values are cleared, then the first tile of
    logits goes into them. -/
theorem run_first (c : Dev nD) (E : Set ℕ) (i : grid1.Coords) (arg1 : Memref sig .tc .vmem S20480x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x1x2000 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .bf16) (harg8 : arg8.IsWhole) (arg9 : Memref sig .tc .vmem S1024x1 .f32) (harg9 : arg9.IsWhole) (arg10 : Memref sig .tc .vmem S1024x1 .f32) (harg10 : arg10.IsWhole)
    (hc0 : AtFirst i) (hc1 : ¬ AtLast i)
    (x0 : Vec F S20480x128 .f32) (x1 : Vec F S128x128 .f32) (x2 : Vec F S1x128 .f32) (x3 : Vec F S2000x128 .f32) (x4 : Vec F S1x1x2000 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k1_pay2 x0 x1 x2) ∗ owns (c : Thread nD τ) arg9 fullShare (nextM x3 (k1_pay2 x0 x1 x2) x4 k1_pay3)
            ∗ owns (c : Thread nD τ) arg10 fullShare (nextS x3 (k1_pay2 x0 x1 x2) x4 k1_pay3 k1_pay4)) -∗ Q ⟨⟩))
      ⊢ wp frame (wpE (defs₀ (F := F)) Variants.none c none) E (cc1__stats_kernel i arg1 harg1 arg2 harg2 arg3 harg3 arg4 harg4 arg5 harg5 arg6 harg6 arg7 harg7 arg8 harg8 arg9 harg9 arg10 harg10) Q := by
  simp only [cc1__stats_kernel_eq_skeleton]; unfold cc1__stats_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, ⟨%d10, %f10, -, H10⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    refine (put _ _ _ _ _ (by decide)).trans ?_
    rw [get_g, get_w1, get_b1]
  isplitl [H9]
  · iexists _; isplitr
    swap; · iexact H9
    ipureintro
    refine (put _ _ _ _ _ (by decide)).trans ?_
    unfold run_first.sl.v5 run_first.sl.v14
    unfold run_first.sl.H8_1 run_first.sl.H9_1
    rw [back_h, back_m]
    rw [get_w2, get_b2, get_g, get_w1, get_b1]
  iexists _; isplitr
  swap; · iexact H10
  ipureintro
  refine (put _ _ _ _ _ (by decide)).trans ?_
  unfold run_first.sl.v5 run_first.sl.v14 run_first.sl.v16
  unfold run_first.sl.H8_1 run_first.sl.H9_1 run_first.sl.H10_1
  rw [back_h, back_m, back_m]
  rw [get_w2, get_b2, get_g, get_w1, get_b1]

end Cert.Proof.Stats

end
-- ==== Proof.StatsBody.lean ====
/-
  The first TensorCore kernel of the program, `stats`: the proof data of its pipeline over whatever contents the region finds
  in its arrays, and what the pipeline asks of the body at every grid point.
-/
module

public import proofs.«01_k».proof.Proof.StatsRun
public import Idealize.ShloMosaic.Lib.WordCmp

@[expose] public section

set_option maxRecDepth 16384

noncomputable section

namespace Cert.Proof.Stats

open Cert.KernelIdeal Cert.KernelIdeal.Gen
open Cert.Proof.Gather (UU)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 1) (Elt F) ℕ UU ℕ

open Cert.Proof.Write (seen)

/-- Window `w`'s block at point `t`, read off its array as the region finds it (`V`). -/
def blkAt (V : Valuation τ sig (Elt F)) (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The first grid point. -/
def p0 : Fin cfg1.N := ⟨0, by decide⟩

/-- The hidden layer: what the first point makes. -/
def hid (V : Valuation τ sig (Elt F)) : Vec F S1024x128 .bf16 := k1_pay2 (blkAt V 0 p0) (blkAt V 1 p0) (blkAt V 2 p0)

/-- The running maximum and the running sum before point `n`. -/
def st (V : Valuation τ sig (Elt F)) : (n : ℕ) → n ≤ cfg1.N → Vec F S1024x1 .f32 × Vec F S1024x1 .f32
  | 0, _ => (k1_pay3, k1_pay4)
  | n + 1, hn => (nextM (blkAt V 3 ⟨n, hn⟩) (hid V) (blkAt V 4 ⟨n, hn⟩) (st V n (Nat.le_of_succ_le hn)).1,
      nextS (blkAt V 3 ⟨n, hn⟩) (hid V) (blkAt V 4 ⟨n, hn⟩) (st V n (Nat.le_of_succ_le hn)).1 (st V n (Nat.le_of_succ_le hn)).2)

/-- The log-sum-exp: what the last point makes. -/
def lse (V : Valuation τ sig (Elt F)) : Vec F S1024x128 .f32 := k1_pay1 (st V cfg1.N le_rfl).1 (st V cfg1.N le_rfl).2

/-- The buffers of the region that neither the windows nor the scratch hold. -/
def others (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f))

/-- Between two points: the scratch at the hidden layer and the two running values, the rest at anything. -/
def carried (V : Valuation τ sig (Elt F)) (c : Dev nD) (n : ℕ) (hn : n ≤ cfg1.N) : sProp 𝕄 :=
  iprop(owns (c : Thread nD τ) (Memref.whole cc1_scratch0 : Memref sig .tc .vmem S1024x128 .bf16) fullShare (hid V)
    ∗ owns (c : Thread nD τ) (Memref.whole cc1_scratch1 : Memref sig .tc .vmem S1024x1 .f32) fullShare (st V n hn).1
    ∗ owns (c : Thread nD τ) (Memref.whole cc1_scratch2 : Memref sig .tc .vmem S1024x1 .f32) fullShare (st V n hn).2 ∗ others c)

/-- The invariant before point `n`: at the first the scratch is at anything. -/
def Inv (V : Valuation τ sig (Elt F)) (c : Dev nD) : (n : ℕ) → n ≤ cfg1.N → sProp 𝕄
  | 0, _ => Pipeline.scopedRest spec1 c
  | n + 1, hn => carried V c (n + 1) hn

/-- The proof data of the pipeline over arrays found at `V`. -/
def data (V : Valuation τ sig (Elt F)) (c : Dev nD) : Dat τ (Elt F) (HIx 1) ℕ UU ℕ cfg1 c where
  A w := V (Proc.devRef .tc (Pipeline.arrRef spec1 w))
  after w t := match w with
    | ⟨0, _⟩ => blkAt V 0 t
    | ⟨1, _⟩ => blkAt V 1 t
    | ⟨2, _⟩ => blkAt V 2 t
    | ⟨3, _⟩ => blkAt V 3 t
    | ⟨4, _⟩ => blkAt V 4 t
    | ⟨5, _⟩ => hid V
    | ⟨6, _⟩ => lse V
  Φ t := Inv V c t.val (Nat.le_of_lt_succ t.isLt)
  q _ := fullShare
  owed _ := 0
  recorded _ := seen F c

variable (V : Valuation τ sig (Elt F)) (c : Dev nD)

/-- A window's array is what the region found in it. -/
theorem A_eq (w : Fin cfg1.W) : (data V c).A w = V (Proc.devRef .tc (Pipeline.arrRef spec1 w)) := by dsimp only [data]
/-- The body leaves the window on the gathered rows at its block. -/
theorem after0 (t : Fin cfg1.N) : (data V c).after 0 t = blkAt V 0 t := by dsimp only [data]
/-- The body leaves the window on the first layer's matrix at its block. -/
theorem after1 (t : Fin cfg1.N) : (data V c).after 1 t = blkAt V 1 t := by dsimp only [data]
/-- The body leaves the window on the first layer's bias at its block. -/
theorem after2 (t : Fin cfg1.N) : (data V c).after 2 t = blkAt V 2 t := by dsimp only [data]
/-- The body leaves the window on the second layer's matrix at its block. -/
theorem after3 (t : Fin cfg1.N) : (data V c).after 3 t = blkAt V 3 t := by dsimp only [data]
/-- The body leaves the window on the second layer's bias at its block. -/
theorem after4 (t : Fin cfg1.N) : (data V c).after 4 t = blkAt V 4 t := by dsimp only [data]
/-- The body leaves the hidden layer in its window. -/
theorem after5 (t : Fin cfg1.N) : (data V c).after 5 t = hid V := by dsimp only [data]
/-- The body leaves the log-sum-exp in its window. -/
theorem after6 (t : Fin cfg1.N) : (data V c).after 6 t = lse V := by dsimp only [data]

/-! Each input's staging buffer holds its block at every point. -/

/-- The window on the gathered rows holds its block when the body starts. -/
theorem before0 (t : Fin cfg1.N) (d) : (data V c).before 0 t d = blkAt V 0 t :=
  ((data V c).before_in_eq_fetched 0 rfl (fun _ => rfl) (fun _ _ _ => rfl) (fun t => by rw [after0]; unfold Dat.blockOf blkAt; rw [A_eq]; try rfl) t d).trans
    (by unfold Dat.fetched Dat.blockOf blkAt; rw [A_eq]; try rfl)
/-- The window on the first layer's matrix holds its block when the body starts. -/
theorem before1 (t : Fin cfg1.N) (d) : (data V c).before 1 t d = blkAt V 1 t :=
  ((data V c).before_in_eq_fetched 1 rfl (fun _ => rfl) (fun _ _ _ => rfl) (fun t => by rw [after1]; unfold Dat.blockOf blkAt; rw [A_eq]; try rfl) t d).trans
    (by unfold Dat.fetched Dat.blockOf blkAt; rw [A_eq]; try rfl)
/-- The window on the first layer's bias holds its block when the body starts. -/
theorem before2 (t : Fin cfg1.N) (d) : (data V c).before 2 t d = blkAt V 2 t :=
  ((data V c).before_in_eq_fetched 2 rfl (fun _ => rfl) (fun _ _ _ => rfl) (fun t => by rw [after2]; unfold Dat.blockOf blkAt; rw [A_eq]; try rfl) t d).trans
    (by unfold Dat.fetched Dat.blockOf blkAt; rw [A_eq]; try rfl)
/-- The window on the second layer's matrix holds its block when the body starts. -/
theorem before3 (t : Fin cfg1.N) (d) : (data V c).before 3 t d = blkAt V 3 t :=
  ((data V c).before_in_eq_fetched 3 rfl (fun _ => rfl) (fun _ _ _ => rfl) (fun t => by rw [after3]; unfold Dat.blockOf blkAt; rw [A_eq]; try rfl) t d).trans
    (by unfold Dat.fetched Dat.blockOf blkAt; rw [A_eq]; try rfl)
/-- The window on the second layer's bias holds its block when the body starts. -/
theorem before4 (t : Fin cfg1.N) (d) : (data V c).before 4 t d = blkAt V 4 t :=
  ((data V c).before_in_eq_fetched 4 rfl (fun _ => rfl) (fun _ _ _ => rfl) (fun t => by rw [after4]; unfold Dat.blockOf blkAt; rw [A_eq]; try rfl) t d).trans
    (by unfold Dat.fetched Dat.blockOf blkAt; rw [A_eq]; try rfl)

/-! Which points are the first and the last, and where the outputs' windows are idle. -/

/-- The body's test for the first point. -/
theorem atFirst_iff : ∀ t : Fin cfg1.N, AtFirst (grid1.coords t) ↔ t.val % 50 = 0 :=
  (fun t => by
    have ht : t.val < 50 := Nat.lt_of_lt_of_eq t.isLt N_1
    have e0 : (grid1.coords t 0).val = t.val / 1 % 50 := Pipeline.Grid.coords_val t 0 (by decide) rfl
    simp only [AtFirst, e0]
    word_cmp
   : ∀ t : Fin grid1.N, AtFirst (grid1.coords t) ↔ t.val % 50 = 0)
/-- Its test for the last. -/
theorem atLast_iff : ∀ t : Fin cfg1.N, AtLast (grid1.coords t) ↔ t.val % 50 = 49 :=
  (fun t => by
    have ht : t.val < 50 := Nat.lt_of_lt_of_eq t.isLt N_1
    have e0 : (grid1.coords t 0).val = t.val / 1 % 50 := Pipeline.Grid.coords_val t 0 (by decide) rfl
    simp only [AtLast, k1_cond2, e0]
    word_cmp
   : ∀ t : Fin grid1.N, AtLast (grid1.coords t) ↔ t.val % 50 = 49)
/-- Before the last point the body does not touch the window of the hidden layer. -/
theorem idle5 : ∀ t : Fin cfg1.N, ¬ AtLast (grid1.coords t) → cfg1.idle 5 (grid1.coords t) = true := by decide +kernel
/-- Before the last point the body does not touch the window of the log-sum-exp. -/
theorem idle6 : ∀ t : Fin cfg1.N, ¬ AtLast (grid1.coords t) → cfg1.idle 6 (grid1.coords t) = true := by decide +kernel
/-- At the last point it writes the window of the hidden layer. -/
theorem live5 : ∀ t : Fin cfg1.N, AtLast (grid1.coords t) → cfg1.idle 5 (grid1.coords t) = false := by decide +kernel
/-- At the last point it writes the window of the log-sum-exp. -/
theorem live6 : ∀ t : Fin cfg1.N, AtLast (grid1.coords t) → cfg1.idle 6 (grid1.coords t) = false := by decide +kernel
/-- Before the last point the window of the hidden layer is not sent out. -/
theorem stays5 (t : Fin cfg1.N) (h : ¬ t.val % 50 = 49) : (cfg1.win 5).flush t = false := by
  cases hb : (cfg1.win 5).flush t
  · rfl
  · exact absurd ((flush1_5 t).mp hb) h
/-- Before the last point the window of the log-sum-exp is not sent out. -/
theorem stays6 (t : Fin cfg1.N) (h : ¬ t.val % 50 = 49) : (cfg1.win 6).flush t = false := by
  cases hb : (cfg1.win 6).flush t
  · rfl
  · exact absurd ((flush1_6 t).mp hb) h

/-! What each window is left at. -/

/-- After the body the window on the gathered rows is held at its block. -/
theorem leaves0 (t : Fin cfg1.N) : (data V c).leavesExact 0 t = owns (c : Thread nD τ) (st1_0 t) fullShare (blkAt V 0 t) := by
  unfold Dat.leavesExact; rw [show cfg1.idle 0 (cfg1.grid.coords t) = false from rfl, after0]
/-- After the body the window on the first layer's matrix is held at its block. -/
theorem leaves1 (t : Fin cfg1.N) : (data V c).leavesExact 1 t = owns (c : Thread nD τ) (st1_1 t) fullShare (blkAt V 1 t) := by
  unfold Dat.leavesExact; rw [show cfg1.idle 1 (cfg1.grid.coords t) = false from rfl, after1]
/-- After the body the window on the first layer's bias is held at its block. -/
theorem leaves2 (t : Fin cfg1.N) : (data V c).leavesExact 2 t = owns (c : Thread nD τ) (st1_2 t) fullShare (blkAt V 2 t) := by
  unfold Dat.leavesExact; rw [show cfg1.idle 2 (cfg1.grid.coords t) = false from rfl, after2]
/-- After the body the window on the second layer's matrix is held at its block. -/
theorem leaves3 (t : Fin cfg1.N) : (data V c).leavesExact 3 t = owns (c : Thread nD τ) (st1_3 t) fullShare (blkAt V 3 t) := by
  unfold Dat.leavesExact; rw [show cfg1.idle 3 (cfg1.grid.coords t) = false from rfl, after3]
/-- After the body the window on the second layer's bias is held at its block. -/
theorem leaves4 (t : Fin cfg1.N) : (data V c).leavesExact 4 t = owns (c : Thread nD τ) (st1_4 t) fullShare (blkAt V 4 t) := by
  unfold Dat.leavesExact; rw [show cfg1.idle 4 (cfg1.grid.coords t) = false from rfl, after4]
/-- At the last point the window's buffer holds the hidden layer. -/
theorem leaves5 (t : Fin cfg1.N) (h : AtLast (grid1.coords t)) : (data V c).leavesExact 5 t = owns (c : Thread nD τ) (st1_5 t) fullShare (hid V) := by
  unfold Dat.leavesExact; rw [live5 t h, after5]
/-- At the last point the window's buffer holds the log-sum-exp. -/
theorem leaves6 (t : Fin cfg1.N) (h : AtLast (grid1.coords t)) : (data V c).leavesExact 6 t = owns (c : Thread nD τ) (st1_6 t) fullShare (lse V) := by
  unfold Dat.leavesExact; rw [live6 t h, after6]
/-- Before the last point the window of the hidden layer is left as it was. -/
theorem passes5 (t : Fin cfg1.N) (h : ¬ t.val % 50 = 49) : (data V c).leavesExact 5 t = iprop(∃ d, owns (c : Thread nD τ) (st1_5 t) fullShare ((data V c).before 5 t d)) :=
  Dat.leavesExact_idle (data V c) 5 t (idle5 t (fun h' => h ((atLast_iff t).mp h'))) (stays5 t h)
/-- Before the last point the window of the log-sum-exp is left as it was. -/
theorem passes6 (t : Fin cfg1.N) (h : ¬ t.val % 50 = 49) : (data V c).leavesExact 6 t = iprop(∃ d, owns (c : Thread nD τ) (st1_6 t) fullShare ((data V c).before 6 t d)) :=
  Dat.leavesExact_idle (data V c) 6 t (idle6 t (fun h' => h ((atLast_iff t).mp h'))) (stays6 t h)

/-- A whole buffer at anything, as a memory reference at anything, -/
theorem owns_of (b : Ref sig .tc) : iprop(∃ f : Buf (Elt F) ((c : Thread nD τ).loc b), ((c : Thread nD τ).loc b) ↦{fullShare} f)
    ⊢ (iprop(∃ d, owns (c : Thread nD τ) (Memref.whole b) fullShare d) : sProp 𝕄) := by
  iintro ⟨%f, H⟩; iexists f
  rw [owns_whole]; iexact H
/-- and back. -/
theorem of_owns (b : Ref sig .tc) (d) : owns (c : Thread nD τ) (Memref.whole b) fullShare d
    ⊢ (iprop(∃ f : Buf (Elt F) ((c : Thread nD τ).loc b), ((c : Thread nD τ).loc b) ↦{fullShare} f) : sProp 𝕄) := by
  rw [owns_whole]; iintro H; iexists d; iexact H

/-- What the body is called with at a point, the windows one by one, -/
def pre (t : Fin cfg1.N) : sProp 𝕄 :=
  iprop((data V c).Φ t.castSucc ∗ (data V c).owesAt none t.castSucc
    ∗ (∃ d, owns (c : Thread nD τ) (st1_0 t) fullShare ((data V c).before 0 t d))
    ∗ (∃ d, owns (c : Thread nD τ) (st1_1 t) fullShare ((data V c).before 1 t d))
    ∗ (∃ d, owns (c : Thread nD τ) (st1_2 t) fullShare ((data V c).before 2 t d))
    ∗ (∃ d, owns (c : Thread nD τ) (st1_3 t) fullShare ((data V c).before 3 t d))
    ∗ (∃ d, owns (c : Thread nD τ) (st1_4 t) fullShare ((data V c).before 4 t d))
    ∗ (∃ d, owns (c : Thread nD τ) (st1_5 t) fullShare ((data V c).before 5 t d))
    ∗ (∃ d, owns (c : Thread nD τ) (st1_6 t) fullShare ((data V c).before 6 t d)))

/-- and what it returns. -/
def post (t : Fin cfg1.N) : sProp 𝕄 :=
  iprop((data V c).Φ t.succ ∗ (data V c).owesAt none t.succ
    ∗ (data V c).leavesExact 0 t
    ∗ (data V c).leavesExact 1 t
    ∗ (data V c).leavesExact 2 t
    ∗ (data V c).leavesExact 3 t
    ∗ (data V c).leavesExact 4 t
    ∗ (data V c).leavesExact 5 t
    ∗ (data V c).leavesExact 6 t)

/-- Before the first point the scratch holds anything; -/
theorem Inv_zero (n : ℕ) (h : n ≤ cfg1.N) (hz : n = 0) : Inv V c n h = Pipeline.scopedRest spec1 c := by subst hz; rfl
/-- after it the scratch holds the hidden layer and the running pair. -/
theorem Inv_pos (n : ℕ) (h : n ≤ cfg1.N) (hz : n ≠ 0) : Inv V c n h = carried V c n h := by
  cases n with
  | zero => exact absurd rfl hz
  | succ n => rfl

/-- The log-sum-exp, from the running values that the last point leaves. -/
theorem lse_eq (t : Fin cfg1.N) (ht : t.val + 1 = cfg1.N) : lse V = k1_pay1 (st V (t.val + 1) t.isLt).1 (st V (t.val + 1) t.isLt).2 := by
  have : ∀ n (e : n = cfg1.N) (h : n ≤ cfg1.N), st V n h = st V cfg1.N le_rfl := fun n e h => by subst e; rfl
  rw [this _ ht]; rfl

set_option maxHeartbeats 2000000 in
/-- The body at any point. -/
theorem point_run (t : Fin cfg1.N) :
    pre V c t ⊢ wp frame (wpE (defs₀ (F := F)) Variants.none c none) Set.univ (bodyAt1 t) (fun _ => post V c t) := by
  have hN : t.val < 50 := lt_of_lt_of_eq t.isLt (show cfg1.N = 50 from N_1)
  unfold pre post bodyAt1
  simp only [before0, before1, before2, before3, before4, leaves0, leaves1, leaves2, leaves3, leaves4]
  rw [show (data V c).Φ t.succ = carried V c (t.val + 1) t.isLt from rfl,
    show (data V c).Φ t.castSucc = Inv V c t.val t.isLt.le from rfl,
    show (data V c).owesAt none t.succ = (data V c).owesAt none t.castSucc from rfl]
  by_cases h0 : t.val = 0
  · have ht : t = p0 := Fin.ext h0
    have h1 : ¬ t.val % 50 = 49 := by omega
    rw [passes5 V c t h1, passes6 V c t h1, Inv_zero V c _ _ h0, scopedRest1_eq]
    unfold carried others
    iintro ⟨⟨HS0, HS1, HS2, HR⟩, Ho, ⟨%d0, H0⟩, ⟨%d1, H1⟩, ⟨%d2, H2⟩, ⟨%d3, H3⟩, ⟨%d4, H4⟩, ⟨%d5, H5⟩, ⟨%d6, H6⟩⟩
    iapply (run_first c Set.univ (grid1.coords t) _ _ _ _ _ _ _ _ _ _ _ _ _ _ _ _ _ _ _ _ ((atFirst_iff t).mpr (by omega)) (fun h => h1 ((atLast_iff t).mp h)) (blkAt V 0 t) (blkAt V 1 t) (blkAt V 2 t) (blkAt V 3 t) (blkAt V 4 t) _)
    isplitl [H0]; · iexact H0
    isplitl [H1]; · iexact H1
    isplitl [H2]; · iexact H2
    isplitl [H3]; · iexact H3
    isplitl [H4]; · iexact H4
    isplitl [HS0]; · iapply (owns_of c cc1_scratch0) $$ HS0
    isplitl [HS1]; · iapply (owns_of c cc1_scratch1) $$ HS1
    isplitl [HS2]; · iapply (owns_of c cc1_scratch2) $$ HS2
    subst ht
    iintro ⟨H0, H1, H2, H3, H4, HS0, HS1, HS2⟩
    isplitl [HS0 HS1 HS2 HR]
    · isplitl [HS0]; · iexact HS0
      isplitl [HS1]; · iexact HS1
      isplitl [HS2]; · iexact HS2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · rw [Inv_pos V c _ _ h0]
    by_cases h1 : t.val % 50 = 49
    · have h1' := (atLast_iff t).mpr h1
      have ht : t.val + 1 = cfg1.N := by have e : cfg1.N = 50 := N_1; omega
      rw [leaves5 V c t h1', leaves6 V c t h1']
      unfold carried
      iintro ⟨⟨HS0, HS1, HS2, HR⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid1.coords t) _ _ _ _ _ _ _ _ _ _ _ _ _ _ _ _ _ _ _ _ (fun h => by have := (atFirst_iff t).mp h; omega) h1' (blkAt V 3 t) (blkAt V 4 t) (hid V) (st V t.val t.isLt.le).1 (st V t.val t.isLt.le).2 _)
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H3, H4, H5, H6, HS0, HS1, HS2⟩
      isplitl [HS0 HS1 HS2 HR]
      · isplitl [HS0]; · iexact HS0
        isplitl [HS1]; · iexact HS1
        isplitl [HS2]; · iexact HS2
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [lse_eq V t ht]
      iexact H6
    · rw [passes5 V c t h1, passes6 V c t h1]
      unfold carried
      iintro ⟨⟨HS0, HS1, HS2, HR⟩, Ho, ⟨%d0, H0⟩, ⟨%d1, H1⟩, ⟨%d2, H2⟩, ⟨%d3, H3⟩, ⟨%d4, H4⟩, ⟨%d5, H5⟩, ⟨%d6, H6⟩⟩
      iapply (run_middle c Set.univ (grid1.coords t) _ _ _ _ _ _ _ _ _ _ _ _ _ _ _ _ _ _ _ _ (fun h => by have := (atFirst_iff t).mp h; omega) (fun h => h1 ((atLast_iff t).mp h)) (blkAt V 3 t) (blkAt V 4 t) (hid V) (st V t.val t.isLt.le).1 (st V t.val t.isLt.le).2 _)
      isplitl [H3]; · iexact H3
      isplitl [H4]; · iexact H4
      isplitl [HS0]; · iexact HS0
      isplitl [HS1]; · iexact HS1
      isplitl [HS2]; · iexact HS2
      iintro ⟨H3, H4, HS0, HS1, HS2⟩
      isplitl [HS0 HS1 HS2 HR]
      · isplitl [HS0]; · iexact HS0
        isplitl [HS1]; · iexact HS1
        isplitl [HS2]; · iexact HS2
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The kernel's body at a point is the printed one. -/
theorem row (t : Fin cfg1.N) : defs₀ (F := F) .tc cfg1.body (cfg1.bodyArgs t (cfg1.slots t)) = bodyAt1 t := by
  rfl

/-- What the pipeline asks of the body, at every point. -/
theorem obligation : BodyObligation (data V c) (defs₀ (F := F)) Variants.none none Set.univ := fun t => by
  rw [bigSep_W1, bigSep_W1, row]
  exact triple_restated (point_run V c t) rfl .rfl fun _ => .rfl

set_option maxHeartbeats 1000000 in
/-- What is left in the buffers that no window stages, after the last point. -/
theorem Inv_out : (data V c).Φ (Fin.last cfg1.N) ⊢ Pipeline.scopedRest spec1 c := by
  rw [show (data V c).Φ (Fin.last cfg1.N) = carried V c cfg1.N le_rfl from rfl, scopedRest1_eq]
  unfold carried others
  iintro ⟨HS0, HS1, HS2, HR⟩
  isplitl [HS0]; · iapply (of_owns c cc1_scratch0 _) $$ HS0
  isplitl [HS1]; · iapply (of_owns c cc1_scratch1 _) $$ HS1
  isplitl [HS2]; · iapply (of_owns c cc1_scratch2 _) $$ HS2
  iexact HR

end Cert.Proof.Stats

end
-- ==== Proof.TcRegions.lean ====
/-
  The two TensorCore kernels as regions of the program: each enters with every unscoped buffer of the device held at some
  contents, and leaves with them held at those contents updated by what the kernel's pipeline wrote. What the core owes is
  nothing throughout, and what it has waited for stays at the levels already passed, so that the SparseCore call before
  them is still accounted for.
-/
module

public import proofs.«01_k».proof.Proof.StatsBody
public import proofs.«01_k».proof.Proof.WriteBody
public import Idealize.ShloMosaic.Lib.Pipeline.Regions
public import Idealize.ShloMosaic.Lib.Pipeline.RegionArrays
public import Idealize.ShloMosaic.Lib.Pipeline.RegionArraysS
public import Idealize.ShloMosaic.Lib.Pipeline.FrameTail

@[expose] public section

set_option maxRecDepth 16384

noncomputable section

namespace Cert.Proof.Regions

open Cert.KernelIdeal Cert.KernelIdeal.Gen
open Cert.Proof.Gather (UU)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RegionSeg ownSems0 prefHeld ucRefs arrRefs afterRegion)
open Idealize.ShloMosaic.Rounds

variable {F : FTy → Type} [FloatOps F]

local notation "𝕄" => MT nD τ sig (HIx 1) (Elt F) ℕ UU ℕ

/-- Neither pipeline prefetches a table: the only admissible choice. -/
def adm : (p : Fin 2) → (pcfgs (F := F) p).Adm := fun p => (cfgs p).toPCfg_adm

/-- The proof data of both pipelines: the stats kernel's over the contents `V1` it is entered with, the write kernel's over
    `V2`. -/
def pdats (V1 V2 : Dev nD → Valuation τ sig (Elt F)) :
    (p : Fin 2) → (c : Dev nD) → Dat τ (Elt F) (HIx 1) ℕ UU ℕ (Pipeline.pin (pcfgs (F := F)) adm p) c
  | ⟨0, _⟩ => fun c => Stats.data (V1 c) c
  | ⟨1, _⟩ => fun c => Write.data (V2 c) c

/-- What the TensorCore may have waited for by now: only pairs at the levels up to 8. It owes nothing. -/
def quiet (c : Dev nD) : sProp 𝕄 :=
  iprop(∃ W, ⌜(Gather.K (F := F)).WBelow (c : Thread nD τ) W 8⌝ ∗ owes (c : Thread nD τ) 0 W)

/-- The unscoped buffers of a device, held at `V`, and the core quiet. -/
def state (V : Dev nD → Valuation τ sig (Elt F)) (c : Dev nD) : sProp 𝕄 :=
  iprop(StableHlo.held (c.tc : Thread nD τ) (ucRefs τ sig) (V c) ∗ quiet c)

variable (V1 V2 : Dev nD → Valuation τ sig (Elt F))

/-- A quiet core may enter a pipeline whose recorded waits are those up to level 8. -/
theorem quiet_in (p : Fin 2) (c : Dev nD) (ho : (pdats V1 V2 p c).owed 0 = 0) (hr : (pdats V1 V2 p c).recorded 0 = Write.seen F c) :
    (quiet c : sProp 𝕄) ⊢ (pdats V1 V2 p c).owesAt none 0 := by
  unfold Dat.owesAt Pipeline.owesWithin Dat.bound quiet
  rw [ho, hr]
  iintro ⟨%W, %hW, HO⟩
  iexists W
  isplitr; · ipureintro; exact fun x hx => Or.inl (hW x hx)
  iexact HO

/-- A pipeline's own waits are at level 0, so the core leaves it quiet. -/
theorem quiet_out (p : Fin 2) (c : Dev nD) (t) (ho : (pdats V1 V2 p c).owed t = 0) (hr : (pdats V1 V2 p c).recorded t = Write.seen F c) :
    (pdats V1 V2 p c).owesAt none t ⊢ (quiet c : sProp 𝕄) := by
  unfold Dat.owesAt Pipeline.owesWithin Dat.bound quiet
  rw [ho, hr]
  iintro ⟨%W, %hW, HO⟩
  iexists W
  isplitr
  · ipureintro
    intro x hx
    rcases hW hx with h | ⟨w, h⟩
    · exact h
    · rw [(Prod.ext_iff.mp h.choose_spec).2]
      exact (le_of_eq ((Gather.K (F := F)).lev_none _)).trans (Nat.zero_le 8)
  iexact HO

/-- Every window of the stats kernel holds its array whole. -/
theorem stats_share (c : Dev nD) (w) : (pdats V1 V2 0 c).share w = fullShare := by
  unfold Dat.share; split <;> rfl

/-- The arrays of the stats kernel as its region finds them. -/
theorem stats_arrays_in (c : Dev nD) : ((pdats V1 V2 0 c).arrays ((pdats V1 V2 0 c).arrAt · 0) : sProp 𝕄)
    = StableHlo.held (c.tc : Thread nD τ) (arrRefs spec1) (V1 c) :=
  Pipeline.arrays_held (pcfgs (F := F)) adm (pdats V1 V2) 0 launch1.toP c (stats_share V1 V2 c) ((pdats V1 V2 0 c).arrAt · 0) (V1 c) (fun _ => rfl)

/-- The contents after the stats kernel's region. -/
def stats_after (c : Dev nD) : Valuation τ sig (Elt F) := afterRegion (Stats.data (V1 c) c) (V1 c)

/-- The arrays of the stats kernel as its region leaves them. -/
theorem stats_arrays_out (c : Dev nD) : ((pdats V1 V2 0 c).arrays ((pdats V1 V2 0 c).arrAt · cfg1.N) : sProp 𝕄)
    = StableHlo.held (c.tc : Thread nD τ) (arrRefs spec1) (stats_after V1 c) :=
  Pipeline.arrays_held (pcfgs (F := F)) adm (pdats V1 V2) 0 launch1.toP c (stats_share V1 V2 c) ((pdats V1 V2 0 c).arrAt · cfg1.N) (stats_after V1 c)
    (fun w => (Pipeline.afterRegion_arr (Stats.data (V1 c) c) (V1 c) launch1.win.arr_inj w).symm)

/-- Every other buffer stays as it was. -/
theorem stats_rest (c : Dev nD) : (StableHlo.held (c.tc : Thread nD τ) (ucRefs τ sig \ arrRefs spec1) (stats_after V1 c) : sProp 𝕄)
    = StableHlo.held (c.tc : Thread nD τ) (ucRefs τ sig \ arrRefs spec1) (V1 c) :=
  StableHlo.held_congr (c.tc) (Pipeline.afterRegion_off (Stats.data (V1 c) c) (V1 c) (ucRefs τ sig))

/-- The stats kernel's region. -/
def stats : RegionSeg (pcfgs (F := F)) adm (pdats V1 V2) none (defs₀ (F := F)) Variants.none (Gather.K (F := F)).L (Gather.K (F := F)).lev 0 where
  win := launch1.win.to₀
  block_pos := launch1.block_pos
  stage_whole := launch1.stage_whole
  K := PEmpty
  osem k := k.elim
  ho := Pipeline.OwnSemFacts.none _
  hbody c := (Stats.obligation (V1 c) c).loose
  hwaits c := Pipeline.hwaits_of_owed_zero (pcfgs (F := F)) adm (pdats V1 V2) none _ _ 0 (fun _ _ => rfl) c
  pre := state V1
  post := state (stats_after V1)
  X _ := iprop(emp)
  Y _ := iprop(emp)
  Z c := StableHlo.held (c.tc : Thread nD τ) (ucRefs τ sig \ arrRefs spec1) (V1 c)
  hentry c := by
    rw [Pipeline.ownSems0_none, Pipeline.prefHeld_of_none _ rfl, stats_arrays_in]
    unfold state
    rw [StableHlo.held_sub_split (c.tc) (Pipeline.arrRefs_sub_ucRefs spec1 launch1.win.arr_unscoped) (V1 c)]
    iintro ⟨⟨⟨Ha, HR⟩, HO⟩, -, -⟩
    imodintro
    isplitl [Ha]; · iexact Ha
    isplitr; · iempintro
    isplitl [HO]; · iapply (quiet_in V1 V2 0 c rfl rfl); iexact HO
    isplitr; · iempintro
    iexact HR
  hin c := (show _ ⊢ Pipeline.scopedRest spec1 c from by
    iintro ⟨-, -, Hr⟩
    iexact Hr)
  hout c := (Stats.Inv_out (V1 c) c).trans (by
    rw [Pipeline.ownSems0_none]
    iintro H
    isplitr; · iempintro
    isplitr; · iempintro
    iexact H)
  hexit c := by
    unfold state
    rw [StableHlo.held_sub_split (c.tc) (Pipeline.arrRefs_sub_ucRefs spec1 launch1.win.arr_unscoped) (stats_after V1 c),
      stats_rest, ← stats_arrays_out V1 V2 c]
    iintro ⟨Ha, HO, -, HR⟩
    imodintro
    isplitl [Ha HR]
    · isplitl [Ha]; · iexact Ha
      iexact HR
    iapply (quiet_out V1 V2 0 c _ rfl rfl); iexact HO

/-- Every window of the write kernel holds its array whole. -/
theorem write_share (c : Dev nD) (w) : (pdats V1 V2 1 c).share w = fullShare := by
  unfold Dat.share; split <;> rfl

/-- The arrays of the write kernel as its region finds them. -/
theorem write_arrays_in (c : Dev nD) : ((pdats V1 V2 1 c).arrays ((pdats V1 V2 1 c).arrAt · 0) : sProp 𝕄)
    = StableHlo.held (c.tc : Thread nD τ) (arrRefs spec2) (V2 c) :=
  Pipeline.arrays_held (pcfgs (F := F)) adm (pdats V1 V2) 1 launch2.toP c (write_share V1 V2 c) ((pdats V1 V2 1 c).arrAt · 0) (V2 c) (fun _ => rfl)

/-- The contents after the write kernel's region. -/
def write_after (c : Dev nD) : Valuation τ sig (Elt F) := afterRegion (Write.data (V2 c) c) (V2 c)

/-- The arrays of the write kernel as its region leaves them. -/
theorem write_arrays_out (c : Dev nD) : ((pdats V1 V2 1 c).arrays ((pdats V1 V2 1 c).arrAt · cfg2.N) : sProp 𝕄)
    = StableHlo.held (c.tc : Thread nD τ) (arrRefs spec2) (write_after V2 c) :=
  Pipeline.arrays_held (pcfgs (F := F)) adm (pdats V1 V2) 1 launch2.toP c (write_share V1 V2 c) ((pdats V1 V2 1 c).arrAt · cfg2.N) (write_after V2 c)
    (fun w => (Pipeline.afterRegion_arr (Write.data (V2 c) c) (V2 c) launch2.win.arr_inj w).symm)

/-- Every other buffer stays as it was. -/
theorem write_rest (c : Dev nD) : (StableHlo.held (c.tc : Thread nD τ) (ucRefs τ sig \ arrRefs spec2) (write_after V2 c) : sProp 𝕄)
    = StableHlo.held (c.tc : Thread nD τ) (ucRefs τ sig \ arrRefs spec2) (V2 c) :=
  StableHlo.held_congr (c.tc) (Pipeline.afterRegion_off (Write.data (V2 c) c) (V2 c) (ucRefs τ sig))

/-- The write kernel's region. -/
def write : RegionSeg (pcfgs (F := F)) adm (pdats V1 V2) none (defs₀ (F := F)) Variants.none (Gather.K (F := F)).L (Gather.K (F := F)).lev 1 where
  win := launch2.win.to₀
  block_pos := launch2.block_pos
  stage_whole := launch2.stage_whole
  K := PEmpty
  osem k := k.elim
  ho := Pipeline.OwnSemFacts.none _
  hbody c := (Write.obligation (V2 c) c).loose
  hwaits c := Pipeline.hwaits_of_owed_zero (pcfgs (F := F)) adm (pdats V1 V2) none _ _ 1 (fun _ _ => rfl) c
  pre := state V2
  post := state (write_after V2)
  X _ := iprop(emp)
  Y _ := iprop(emp)
  Z c := StableHlo.held (c.tc : Thread nD τ) (ucRefs τ sig \ arrRefs spec2) (V2 c)
  hentry c := by
    rw [Pipeline.ownSems0_none, Pipeline.prefHeld_of_none _ rfl, write_arrays_in]
    unfold state
    rw [StableHlo.held_sub_split (c.tc) (Pipeline.arrRefs_sub_ucRefs spec2 launch2.win.arr_unscoped) (V2 c)]
    iintro ⟨⟨⟨Ha, HR⟩, HO⟩, -, -⟩
    imodintro
    isplitl [Ha]; · iexact Ha
    isplitr; · iempintro
    isplitl [HO]; · iapply (quiet_in V1 V2 1 c rfl rfl); iexact HO
    isplitr; · iempintro
    iexact HR
  hin c := (show _ ⊢ Pipeline.scopedRest spec2 c from by
    iintro ⟨-, -, Hr⟩
    iexact Hr)
  hout c := (show Pipeline.scopedRest spec2 c ⊢ _ from (by
    rw [Pipeline.ownSems0_none]
    iintro H
    isplitr; · iempintro
    isplitr; · iempintro
    iexact H))
  hexit c := by
    unfold state
    rw [StableHlo.held_sub_split (c.tc) (Pipeline.arrRefs_sub_ucRefs spec2 launch2.win.arr_unscoped) (write_after V2 c),
      write_rest, ← write_arrays_out V1 V2 c]
    iintro ⟨Ha, HO, -, HR⟩
    imodintro
    isplitl [Ha HR]
    · isplitl [Ha]; · iexact Ha
      iexact HR
    iapply (quiet_out V1 V2 1 c _ rfl rfl); iexact HO

end Cert.Proof.Regions

end
-- ==== Proof.Main.lean ====
/-
  The program as it runs on a device's TensorCore: the host operations before the SparseCore call, the call, the host
  operations after it, the two TensorCore kernels, the last reshape; and the contents of every buffer at each stage.
-/
module

public import proofs.«01_k».proof.Proof.TileBody
public import proofs.«01_k».proof.Proof.TcRegions
public import Idealize.ShloMosaic.Lib.StableHlo.Run

@[expose] public section

set_option maxRecDepth 16384

noncomputable section

namespace Cert.Proof.Program

open Cert.KernelIdeal Cert.KernelIdeal.Gen
open Cert.Proof.Gather (UU UH UP ΛP K D 𝒱 v₀ EH tLoc xLoc oLoc tqRest P gathered)
open Cert.Proof.Regions (quiet state adm pdats)
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs arrRefs afterRegion cellsGhost toksInit)
open Idealize.ShloMosaic.Rounds

variable {F : FTy → Type} [FloatOps F]

local notation "𝕄" => MT nD τ sig (HIx 1) (Elt F) ℕ UU ℕ

/-! ## The host operations -/

/-- Before the SparseCore call: the indices transposed and laid out in one row, the table widened with 64 zero columns. -/
def opsA : List (HloOp τ sig (Elt F)) :=
  [StableHlo.unary main_arg0 main_v0 ((transpose S20x1024 [1, 0] · transposes_S1024x20_S20x1024_1_0) : (⟨S1024x20, .i32⟩ : BufTy).Contents (Elt F) → (⟨S20x1024, .i32⟩ : BufTy).Contents (Elt F)),
   StableHlo.reshape main_v0 main_v1 (rfl : (.i32 : EltTy) = .i32) shapeCasts_S20x1024_S1x20480,
   StableHlo.nullary main_c (constantI S_ 32 0#32),
   StableHlo.TRef.unary (.of main_c : StableHlo.TRef sig ⟨S_, .i32⟩) main_call0.v0 (sitofp .f32),
   StableHlo.TRef.binary (.of main_arg1 : StableHlo.TRef sig ⟨S100000x64, .f32⟩) main_call0.v0 main_call0.v1 (fun x v => pad S100000x128 ![0, 0] ![0, 64] ![0, 0] x v pads_S100000x64_S100000x128_000_0640 h_S_)]

/-- After it: the first weights widened with 64 zero columns, the two biases reshaped. -/
def opsB : List (HloOp τ sig (Elt F)) :=
  [StableHlo.nullary main_c_0 (constantI S_ 32 0#32),
   StableHlo.TRef.unary (.of main_c_0 : StableHlo.TRef sig ⟨S_, .i32⟩) main_call1.v0 (sitofp .f32),
   StableHlo.TRef.binary (.of main_arg2 : StableHlo.TRef sig ⟨S128x64, .f32⟩) main_call1.v0 main_call1.v1 (fun x v => pad S128x128 ![0, 0] ![0, 64] ![0, 0] x v pads_S128x64_S128x128_000_0640 h_S_),
   StableHlo.reshape main_arg3 main_v5 (rfl : (.f32 : EltTy) = .f32) shapeCasts_S128_S1x128,
   StableHlo.reshape main_arg5 main_v6 (rfl : (.f32 : EltTy) = .f32) shapeCasts_S100000_S50x1x2000]

/-- At the end: the tiles of the output laid out in rows. -/
def opsC : List (HloOp τ sig (Elt F)) :=
  [StableHlo.reshape main_v8 main_v9 (rfl : (.f32 : EltTy) = .f32) shapeCasts_S1024x50x1x2000_S1024x100000]

/-- The call of pipeline `p`'s kernel. -/
abbrev call (p : Fin 2) : Prog (TpuEff nD τ sig (Elt F) (ΛP (F := F)) .tc) PUnit := .op (.customCall (Pipeline.entry p) ()) .ret

/-- The program is its host operations, the SparseCore call and the two kernels' calls, in this order. -/
theorem main_eq (d : Dev nD) : main (F := F) d = (StableHlo.seq opsA >>= fun _ => (K (F := F)).run d 0 >>= fun _ => StableHlo.seq opsB >>= fun _ =>
    SparseCore.liftProg (call 0) >>= fun _ => SparseCore.liftProg (call 1) >>= fun _ => StableHlo.seq opsC >>= fun _ => pure ⟨⟩) := by
  simp only [main, opsA, opsB, opsC, StableHlo.seq, fn_pad.body, fn_pad_0.body, bind_assoc, pure_bind]
  rfl

/-! ## The contents at each stage -/

variable (m : (ℓ : Loc nD τ sig) → Buf (Elt F) ℓ)

/-- Before the SparseCore call. -/
def cA (d : Dev nD) : Valuation τ sig (Elt F) := StableHlo.after opsA (StableHlo.launchContents m d)
/-- The widened table as the SparseCore call finds it. -/
def Tt (d : Dev nD) : S100000x128.Idx → Elt F .f32 := cA m d (Proc.devRef .tc main_v2)
/-- The row of indices there. -/
def Xx (d : Dev nD) : S1x20480.Idx → Elt F .i32 := cA m d (Proc.devRef .tc main_v1)
/-- After the SparseCore call: the gathered rows are there. -/
def cS (d : Dev nD) : Valuation τ sig (Elt F) := Function.update (cA m d) (Proc.devRef .tc main_v3) (gathered (Tt m d) (Xx m d))
/-- Before the stats kernel. -/
def c1 (d : Dev nD) : Valuation τ sig (Elt F) := StableHlo.after opsB (cS m d)
/-- Before the write kernel. -/
def c2 (d : Dev nD) : Valuation τ sig (Elt F) := Regions.stats_after (c1 m) d
/-- After the write kernel. -/
def c3 (d : Dev nD) : Valuation τ sig (Elt F) := Regions.write_after (c2 m) d
/-- At the end. -/
def c4 (d : Dev nD) : Valuation τ sig (Elt F) := StableHlo.after opsC (c3 m d)

/-! ## The pieces of the TensorCore's run -/

/-- The host operations before the SparseCore call touch unscoped buffers only, -/
theorem opsA_sub : ∀ op ∈ (opsA : List (HloOp τ sig (Elt F))), op.bufs ⊆ ucRefs τ sig :=
  fun op h => Pipeline.sub_ucRefs op ((show ∀ op ∈ (opsA : List (HloOp τ sig (Elt F))), op.bufs ⊆ StableHlo.tcRefs τ sig from
    List.forall_mem_cons.mpr ⟨StableHlo.unary_bufs_sub .., List.forall_mem_cons.mpr ⟨StableHlo.reshape_bufs_sub .., List.forall_mem_cons.mpr ⟨StableHlo.nullary_bufs_sub .., List.forall_mem_cons.mpr ⟨StableHlo.unary_bufs_sub .., List.forall_mem_cons.mpr ⟨StableHlo.binary_bufs_sub .., fun _ h => absurd h List.not_mem_nil⟩⟩⟩⟩⟩) op h)
/-- The host operations between the calls touch unscoped buffers only, -/
theorem opsB_sub : ∀ op ∈ (opsB : List (HloOp τ sig (Elt F))), op.bufs ⊆ ucRefs τ sig :=
  fun op h => Pipeline.sub_ucRefs op ((show ∀ op ∈ (opsB : List (HloOp τ sig (Elt F))), op.bufs ⊆ StableHlo.tcRefs τ sig from
    List.forall_mem_cons.mpr ⟨StableHlo.nullary_bufs_sub .., List.forall_mem_cons.mpr ⟨StableHlo.unary_bufs_sub .., List.forall_mem_cons.mpr ⟨StableHlo.binary_bufs_sub .., List.forall_mem_cons.mpr ⟨StableHlo.reshape_bufs_sub .., List.forall_mem_cons.mpr ⟨StableHlo.reshape_bufs_sub .., fun _ h => absurd h List.not_mem_nil⟩⟩⟩⟩⟩) op h)
/-- The host operations after the last call touch unscoped buffers only, -/
theorem opsC_sub : ∀ op ∈ (opsC : List (HloOp τ sig (Elt F))), op.bufs ⊆ ucRefs τ sig :=
  fun op h => Pipeline.sub_ucRefs op ((show ∀ op ∈ (opsC : List (HloOp τ sig (Elt F))), op.bufs ⊆ StableHlo.tcRefs τ sig from
    List.forall_mem_cons.mpr ⟨StableHlo.reshape_bufs_sub .., fun _ h => absurd h List.not_mem_nil⟩) op h)
/-- The host operations before the SparseCore call take no fresh buffer. -/
theorem opsA_fresh : ∀ op ∈ (opsA : List (HloOp τ sig (Elt F))), op.fresh = ∅ :=
  List.forall_mem_cons.mpr ⟨rfl, List.forall_mem_cons.mpr ⟨rfl, List.forall_mem_cons.mpr ⟨rfl, List.forall_mem_cons.mpr ⟨rfl,
    List.forall_mem_cons.mpr ⟨rfl, fun _ h => absurd h List.not_mem_nil⟩⟩⟩⟩⟩
/-- The host operations between the calls take no fresh buffer. -/
theorem opsB_fresh : ∀ op ∈ (opsB : List (HloOp τ sig (Elt F))), op.fresh = ∅ :=
  List.forall_mem_cons.mpr ⟨rfl, List.forall_mem_cons.mpr ⟨rfl, List.forall_mem_cons.mpr ⟨rfl, List.forall_mem_cons.mpr ⟨rfl,
    List.forall_mem_cons.mpr ⟨rfl, fun _ h => absurd h List.not_mem_nil⟩⟩⟩⟩⟩
/-- The host operations after the last call take no fresh buffer. -/
theorem opsC_fresh : ∀ op ∈ (opsC : List (HloOp τ sig (Elt F))), op.fresh = ∅ :=
  List.forall_mem_cons.mpr ⟨rfl, fun _ h => absurd h List.not_mem_nil⟩

/-- The operands and the result of the SparseCore call, out of the buffers held. -/
def scRefs : Finset (DevRef τ sig) := {Proc.devRef .tc main_v1, Proc.devRef .tc main_v3, Proc.devRef .tc main_v2}

/-- They are unscoped buffers. -/
theorem scRefs_sub : scRefs ⊆ ucRefs τ sig := by decide

/-- Holding them is holding the list, the result and the table. -/
theorem held_scRefs (d : Dev nD) (W : Valuation τ sig (Elt F)) : (StableHlo.held (d.tc : Thread nD τ) scRefs W : sProp 𝕄)
    = iprop((xLoc d ↦{fullShare} W (Proc.devRef .tc main_v1)) ∗ (oLoc d ↦{fullShare} W (Proc.devRef .tc main_v3)) ∗ (tLoc d ↦{fullShare} W (Proc.devRef .tc main_v2))) := by
  unfold StableHlo.held scRefs
  rw [SparseCore.bigSep_insert' (by decide), SparseCore.bigSep_insert' (by decide), bigSep_singleton]

/-- Ghost state of the two pipelines, next to the SparseCore call's. -/
abbrev EP : Emb (URounds (GSem nD τ sig) Unit) 𝕄 := (Emb.inl : Emb UP (UP × Counters)).trans embR

/-- The pipelines' configurations. -/
abbrev pcs : (p : Fin 2) → Pipeline.Cfg sig Λ₀ := Pipeline.pin (pcfgs (F := F)) adm

/-- The two pipelines use different semaphores. -/
theorem pcs_inj : Function.Injective (Pipeline.cellOf (nD := nD) (τ := τ) (pcs (F := F))) := cellOf_inj

/-- The two pipelines' ghost state of device `d`. -/
def G (d : Dev nD) : sProp 𝕄 :=
  iprop((cellsGhost (pcs (F := F)) EP 0 d ∗ toksInit (pcs (F := F)) EP 0 d) ∗ cellsGhost (pcs (F := F)) EP 1 d ∗ toksInit (pcs (F := F)) EP 1 d)

/-- The SparseCore call: it takes the table, the indices and the output array out of the buffers held, and puts them back
    with the gathered rows in the output array. -/
theorem call_in (d : Dev nD) : (StableHlo.held (d.tc : Thread nD τ) (ucRefs τ sig) (cA m d) : sProp 𝕄)
    ⊢ iprop(StableHlo.held (d.tc : Thread nD τ) (ucRefs τ sig \ scRefs) (cA m d) ∗ (tLoc d ↦{tqRest} Tt m d)
        ∗ bigSep Finset.univ fun c : Fin ((K (F := F)).nCore 0) => (P (Tt m) (Xx m)).st 0 d c) := by
  rw [StableHlo.held_sub_split (d.tc) scRefs_sub (cA m d), held_scRefs]
  iintro ⟨Hs, Hr⟩
  isplitl [Hr]; · iexact Hr
  iapply (Gather.st_of (Tt m) (Xx m) d (cA m d (Proc.devRef .tc main_v3)))
  iexact Hs

/-- What the TensorCore kept and what the SparseCores hand back are all its buffers, the gathered array among them. -/
theorem call_out (d : Dev nD) : iprop(StableHlo.held (d.tc : Thread nD τ) (ucRefs τ sig \ scRefs) (cA m d) ∗ (tLoc d ↦{tqRest} Tt m d)
        ∗ bigSep Finset.univ fun c : Fin ((K (F := F)).nCore 0) => (P (Tt m) (Xx m)).dn 0 d c)
    ⊢ (StableHlo.held (d.tc : Thread nD τ) (ucRefs τ sig) (cS m d) : sProp 𝕄) := by
  rw [StableHlo.held_sub_split (d.tc) scRefs_sub (cS m d), held_scRefs,
    StableHlo.held_congr (d.tc) (show ∀ b ∈ ucRefs τ sig \ scRefs, cS m d b = cA m d b from fun b hb =>
      Function.update_of_ne (fun e => (Finset.mem_sdiff.mp hb).2 (by rw [e]; decide)) _ _)]
  iintro ⟨Hr, H⟩
  isplitl [H]
  · ihave H := (Gather.dn_to (Tt m) (Xx m) d) $$ H
    have e1 : cS m d (Proc.devRef .tc main_v1) = Xx m d := Function.update_of_ne (by decide) _ _
    have e2 : cS m d (Proc.devRef .tc main_v2) = Tt m d := Function.update_of_ne (by decide) _ _
    have e3 : cS m d (Proc.devRef .tc main_v3) = gathered (Tt m d) (Xx m d) := Function.update_self _ _ _
    rw [e1, e2, e3]
    iexact H
  iexact Hr

/-- A TensorCore kernel's call, from what its region is entered with. -/
theorem wp_region (p : Fin 2) (R : Pipeline.RegionSeg (pcfgs (F := F)) adm (pdats (c1 m) (c2 m)) none (defs₀ (F := F)) Variants.none (K (F := F)).L (K (F := F)).lev p)
    (d : Dev nD) (Q : PUnit → sProp 𝕄) :
    iprop(boundary (d.tc : Thread nD τ) ∗ R.pre d ∗ levAts (K (F := F)).L (K (F := F)).lev ∗ (cellsGhost (pcs (F := F)) EP p d ∗ toksInit (pcs (F := F)) EP p d)
        ∗ (iprop(boundary (d.tc : Thread nD τ) ∗ R.post d) -∗ Q ⟨⟩))
      ⊢ wp frame (wpE ((K (F := F)).defs (D (F := F))) 𝒱 (T d) none) Set.univ (SparseCore.liftProg (call (F := F) p)) Q := by
  refine BIBase.Entails.trans ?_ ((K (F := F)).wp_liftProg (D (F := F)) 𝒱 (T d) Set.univ none (call p) Q)
  refine BIBase.Entails.trans ?_ (Pipeline.RegionSeg.wp (pcfgs (F := F)) adm (pdats (c1 m) (c2 m)) none pcs_inj EP (defs₀ (F := F)) Variants.none (K (F := F)).L (K (F := F)).lev
    R d none (fun _ h => nomatch h) .ret Q)
  iintro ⟨Hb, Hp, Hl, ⟨Hc, Ht⟩, Hk⟩
  isplitl [Hk]
  · iintro H
    rw [wp_ret]; imodintro
    iapply Hk; iexact H
  isplitl [Hb]; · iexact Hb
  isplitl [Hp]; · iexact Hp
  isplitl [Hl]; · iexact Hl
  isplitl [Hc]; · iexact Hc
  iexact Ht

/-- A line of host operations, on the unscoped buffers. -/
theorem wp_ops (d : Dev nD) (ops : List (HloOp τ sig (Elt F))) (hS : ∀ op ∈ ops, op.bufs ⊆ ucRefs τ sig) (hf : ∀ op ∈ ops, op.fresh = ∅) (W : Valuation τ sig (Elt F))
    (Q : PUnit → sProp 𝕄) :
    iprop(boundary (d.tc : Thread nD τ) ∗ StableHlo.held (d.tc : Thread nD τ) (ucRefs τ sig) W
        ∗ (iprop(boundary (d.tc : Thread nD τ) ∗ StableHlo.held (d.tc : Thread nD τ) (ucRefs τ sig) (StableHlo.after ops W)) -∗ Q ⟨⟩))
      ⊢ wp frame (wpE ((K (F := F)).defs (D (F := F))) 𝒱 (T d) none) Set.univ (StableHlo.seq ops) Q := by
  have h := StableHlo.wp_seq (defs := (K (F := F)).defs (D (F := F))) (𝒱 := 𝒱) (bd := none) (E := Set.univ) (Lvl := ℕ) (Ix := HIx 1) (Name := ℕ) (U := UU) d (ucRefs τ sig) (fun _ => .ret ⟨⟩) (K := Q) ops hS hf W
  rw [show (StableHlo.seq ops >>= fun _ => Prog.ret PUnit.unit) = (StableHlo.seq ops : Prog (TpuEff nD τ sig (Elt F) (SparseCore.Sig (ΛP (F := F)) 1) .tc) PUnit) from bind_pure _] at h
  iintro ⟨Hb, Hh, Hk⟩
  iapply h $$ [Hb Hh]
  · isplitl [Hb]; · iexact Hb
    iexact Hh
  iintro H
  rw [wp_ret]; imodintro
  iapply Hk; iexact H

variable (ρ : Dev nD → PrngReg)

/-- Once the SparseCore call is over, the TensorCore's record of waits may be lent out and put back. -/
theorem tcSt_quiet (d : Dev nD) : ((K (F := F)).tcSt EH d 1 : sProp 𝕄) ⊢ iprop(quiet d ∗ (quiet d -∗ (K (F := F)).tcSt EH d 1)) := by
  unfold SparseCore.Cfg.tcSt
  rw [(K (F := F)).Otc_end d le_rfl]
  have e : (quiet d : sProp 𝕄) = iprop(∃ W, ⌜(K (F := F)).WBelow (T d) W (8 * SparseCore.Cfg.Blocks.fst 1 1 1)⌝ ∗ owes (T d) 0 W) := rfl
  rw [e]
  iintro ⟨HO, Hr⟩
  isplitl [HO]; · iexact HO
  iintro HO
  isplitl [HO]; · iexact HO
  iexact Hr

/-- The unscoped buffers at launch. -/
theorem launch_held (d : Dev nD) : (unscopedBufs d (fun b => m ((d.tc : Thread nD τ).loc b)) : sProp 𝕄)
    = StableHlo.held (d.tc : Thread nD τ) (ucRefs τ sig) (StableHlo.launchContents m d) :=
  Pipeline.unscopedBufs_held d (StableHlo.launchContents m d)

/-- What the TensorCore ends with: every unscoped buffer at its final contents. -/
abbrev FIN (d : Dev nD) : sProp 𝕄 := StableHlo.held (d.tc : Thread nD τ) (ucRefs τ sig) (c4 m d)

/-- The TensorCore's run of the whole program: it ends with every unscoped buffer at its final contents. -/
theorem hmain (κ : GSem nD τ sig → ℕ) (d : Dev nD) :
    iprop((K (F := F)).ctx EH (P (Tt m) (Xx m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, launch_held]
  unfold G
  iintro ⟨#Hctx, Hst, ⟨Hb, Hh, Hts, -⟩, HG1, HG2⟩
  ihave #Hlev := (SparseCore.Cfg.ctx_levAts κ) $$ Hctx
  rw [wp_bind]
  iapply (wp_ops d opsA opsA_sub opsA_fresh (StableHlo.launchContents m d) _)
  isplitl [Hb]; · iexact Hb
  isplitl [Hh]; · iexact Hh
  iintro ⟨Hb, Hh⟩
  ihave Hh := (Entails.of_eq (show (StableHlo.held (d.tc : Thread nD τ) (ucRefs τ sig) (StableHlo.after opsA (StableHlo.launchContents m d)) : sProp 𝕄)
    = StableHlo.held (d.tc : Thread nD τ) (ucRefs τ sig) (cA m d) from rfl)) $$ Hh
  rw [wp_bind]
  ihave Hh' := (call_in m d) $$ Hh
  icases Hh' with ⟨Hr, Ht, Hs⟩
  iapply ((K (F := F)).wp_run (D (F := F)) 𝒱 (EH := EH) (P := P (Tt m) (Xx m)) κ d 0) $$ [Hst Hr Ht Hs Hb Hts HG1 HG2]
  isplitr; · iexact Hctx
  isplitl [Hst]; · iexact Hst
  isplitl [Hs]; · iexact Hs
  iintro ⟨Hst, Hdn⟩
  ihave Hh := (call_out m d) $$ [Hr Ht Hdn]
  · isplitl [Hr]; · iexact Hr
    isplitl [Ht]; · iexact Ht
    iexact Hdn
  rw [wp_bind]
  iapply (wp_ops d opsB opsB_sub opsB_fresh (cS m d) _)
  isplitl [Hb]; · iexact Hb
  isplitl [Hh]; · iexact Hh
  iintro ⟨Hb, Hh⟩
  ihave Hh := (Entails.of_eq (show (StableHlo.held (d.tc : Thread nD τ) (ucRefs τ sig) (StableHlo.after opsB (cS m d)) : sProp 𝕄)
    = StableHlo.held (d.tc : Thread nD τ) (ucRefs τ sig) (c1 m d) from rfl)) $$ Hh
  ihave Hst := (Entails.of_eq (show ((K (F := F)).tcSt EH d ((0 : Fin 1).val + 1) : sProp 𝕄) = (K (F := F)).tcSt EH d 1 from rfl)) $$ Hst
  ihave Hst' := (tcSt_quiet d) $$ Hst
  icases Hst' with ⟨HO, Hrest⟩
  rw [wp_bind]
  iapply (wp_region m 0 (Regions.stats (c1 m) (c2 m)) d _)
  isplitl [Hb]; · iexact Hb
  isplitl [Hh HO]
  · iapply (Entails.of_eq (show state (c1 m) d = (Regions.stats (c1 m) (c2 m)).pre d from rfl))
    unfold state
    isplitl [Hh]; · iexact Hh
    iexact HO
  isplitr; · iexact Hlev
  isplitl [HG1]; · iexact HG1
  iintro ⟨Hb, Hp⟩
  ihave Hp := (Entails.of_eq (show (Regions.stats (c1 m) (c2 m)).post d = (Regions.write (c1 m) (c2 m)).pre d from rfl)) $$ Hp
  rw [wp_bind]
  iapply (wp_region m 1 (Regions.write (c1 m) (c2 m)) d _)
  isplitl [Hb]; · iexact Hb
  isplitl [Hp]; · iexact Hp
  isplitr; · iexact Hlev
  isplitl [HG2]; · iexact HG2
  iintro ⟨Hb, Hp⟩
  ihave Hp' := (Entails.of_eq (show (Regions.write (c1 m) (c2 m)).post d = iprop(StableHlo.held (d.tc : Thread nD τ) (ucRefs τ sig) (c3 m d) ∗ quiet d) from rfl)) $$ Hp
  icases Hp' with ⟨Hh, HO⟩
  rw [wp_bind]
  iapply (wp_ops d opsC opsC_sub opsC_fresh (c3 m d) _)
  isplitl [Hb]; · iexact Hb
  isplitl [Hh]; · iexact Hh
  iintro ⟨Hb, Hh⟩
  ihave Hh := (Entails.of_eq (show (StableHlo.held (d.tc : Thread nD τ) (ucRefs τ sig) (StableHlo.after opsC (c3 m d)) : sProp 𝕄)
    = StableHlo.held (d.tc : Thread nD τ) (ucRefs τ sig) (c4 m d) from rfl)) $$ Hh
  rw [wp_pure]; imodintro
  isplitl [HO Hrest]
  · iapply Hrest; iexact HO
  isplitl [Hh]; · iexact Hh
  isplitl [Hb]; · iexact Hb
  iexact Hts

end Cert.Proof.Program

end
-- ==== Proof.Reads.lean ====
/-
  What the host operations leave in each buffer, and that the arguments stay as they were throughout.
-/
module

public import proofs.«01_k».proof.Proof.Main
public import Idealize.ShloMosaic.Lib.StableHlo.RunRead

@[expose] public section

set_option maxRecDepth 16384

noncomputable section

namespace Cert.Proof.Program

open Cert.KernelIdeal Cert.KernelIdeal.Gen
open Cert.Proof.Gather (gathered)
open Idealize.ShloMosaic Idealize.ShloMosaic.TcCoe Idealize.ShloMosaic.Tactic
open Idealize.ShloMosaic.StableHlo

variable {F : FTy → Type} [FloatOps F] (m : (ℓ : Loc nD τ sig) → Buf (Elt F) ℓ) (d : Dev nD)

/-- The row of indices: the index matrix transposed and laid out in one row. -/
theorem Xx_eq : Xx m d = shapeCast S1x20480 (transpose S20x1024 [1, 0] (m ((d.tc : Thread nD τ).loc main_arg0) : S1024x20.Idx → Elt F .i32) transposes_S1024x20_S20x1024_1_0) shapeCasts_S20x1024_S1x20480 := by
  unfold Xx cA
  simp only [opsA, TRef.binary, TRef.nullary, TRef.ternary, TRef.unary, TRef.toBuf, TRef.ofBuf, cast_eq]
  after_results_simp <;> rfl

/-- The widened table. -/
theorem Tt_eq : Tt m d = pad S100000x128 ![0, 0] ![0, 64] ![0, 0] (m ((d.tc : Thread nD τ).loc main_arg1) : S100000x64.Idx → Elt F .f32)
    (sitofp .f32 (constantI S_ 32 0#32)) pads_S100000x64_S100000x128_000_0640 h_S_ := by
  unfold Tt cA
  simp only [opsA, TRef.binary, TRef.nullary, TRef.ternary, TRef.unary, TRef.toBuf, TRef.ofBuf, cast_eq]
  after_results_simp <;> rfl

/-! The operations before the SparseCore call keep the arguments; the call writes its own result alone. -/

/-- The host's first operations leave the word ids as at the launch. -/
theorem cA_arg0 : cA m d (Proc.devRef .tc main_arg0) = m ((d.tc : Thread nD τ).loc main_arg0) := by
  unfold cA
  simp only [opsA, TRef.binary, TRef.nullary, TRef.ternary, TRef.unary, TRef.toBuf, TRef.ofBuf, cast_eq]
  after_results_simp <;> rfl
/-- The host's first operations leave the table as at the launch. -/
theorem cA_arg1 : cA m d (Proc.devRef .tc main_arg1) = m ((d.tc : Thread nD τ).loc main_arg1) := by
  unfold cA
  simp only [opsA, TRef.binary, TRef.nullary, TRef.ternary, TRef.unary, TRef.toBuf, TRef.ofBuf, cast_eq]
  after_results_simp <;> rfl
/-- The host's first operations leave the first layer's matrix as at the launch. -/
theorem cA_arg2 : cA m d (Proc.devRef .tc main_arg2) = m ((d.tc : Thread nD τ).loc main_arg2) := by
  unfold cA
  simp only [opsA, TRef.binary, TRef.nullary, TRef.ternary, TRef.unary, TRef.toBuf, TRef.ofBuf, cast_eq]
  after_results_simp <;> rfl
/-- The host's first operations leave the first layer's bias as at the launch. -/
theorem cA_arg3 : cA m d (Proc.devRef .tc main_arg3) = m ((d.tc : Thread nD τ).loc main_arg3) := by
  unfold cA
  simp only [opsA, TRef.binary, TRef.nullary, TRef.ternary, TRef.unary, TRef.toBuf, TRef.ofBuf, cast_eq]
  after_results_simp <;> rfl
/-- The host's first operations leave the second layer's matrix as at the launch. -/
theorem cA_arg4 : cA m d (Proc.devRef .tc main_arg4) = m ((d.tc : Thread nD τ).loc main_arg4) := by
  unfold cA
  simp only [opsA, TRef.binary, TRef.nullary, TRef.ternary, TRef.unary, TRef.toBuf, TRef.ofBuf, cast_eq]
  after_results_simp <;> rfl
/-- The host's first operations leave the second layer's bias as at the launch. -/
theorem cA_arg5 : cA m d (Proc.devRef .tc main_arg5) = m ((d.tc : Thread nD τ).loc main_arg5) := by
  unfold cA
  simp only [opsA, TRef.binary, TRef.nullary, TRef.ternary, TRef.unary, TRef.toBuf, TRef.ofBuf, cast_eq]
  after_results_simp <;> rfl
/-- The SparseCore call leaves the word ids as at the launch. -/
theorem cS_arg0 : cS m d (Proc.devRef .tc main_arg0) = m ((d.tc : Thread nD τ).loc main_arg0) :=
  (Function.update_of_ne (by decide) _ _).trans (cA_arg0 m d)
/-- The SparseCore call leaves the table as at the launch. -/
theorem cS_arg1 : cS m d (Proc.devRef .tc main_arg1) = m ((d.tc : Thread nD τ).loc main_arg1) :=
  (Function.update_of_ne (by decide) _ _).trans (cA_arg1 m d)
/-- The SparseCore call leaves the first layer's matrix as at the launch. -/
theorem cS_arg2 : cS m d (Proc.devRef .tc main_arg2) = m ((d.tc : Thread nD τ).loc main_arg2) :=
  (Function.update_of_ne (by decide) _ _).trans (cA_arg2 m d)
/-- The SparseCore call leaves the first layer's bias as at the launch. -/
theorem cS_arg3 : cS m d (Proc.devRef .tc main_arg3) = m ((d.tc : Thread nD τ).loc main_arg3) :=
  (Function.update_of_ne (by decide) _ _).trans (cA_arg3 m d)
/-- The SparseCore call leaves the second layer's matrix as at the launch. -/
theorem cS_arg4 : cS m d (Proc.devRef .tc main_arg4) = m ((d.tc : Thread nD τ).loc main_arg4) :=
  (Function.update_of_ne (by decide) _ _).trans (cA_arg4 m d)
/-- The SparseCore call leaves the second layer's bias as at the launch. -/
theorem cS_arg5 : cS m d (Proc.devRef .tc main_arg5) = m ((d.tc : Thread nD τ).loc main_arg5) :=
  (Function.update_of_ne (by decide) _ _).trans (cA_arg5 m d)
/-- After the SparseCore call its result is the gathered array, -/
theorem cS_v3 : cS m d (Proc.devRef .tc main_v3) = gathered (Tt m d) (Xx m d) := Function.update_self _ _ _

/-! The operations after it. -/

/-- The operations before the first TensorCore call leave the word ids as at the launch. -/
theorem c1_arg0 : c1 m d (Proc.devRef .tc main_arg0) = m ((d.tc : Thread nD τ).loc main_arg0) := by
  refine Eq.trans ?_ (cS_arg0 m d)
  unfold c1
  simp only [opsB, TRef.binary, TRef.nullary, TRef.ternary, TRef.unary, TRef.toBuf, TRef.ofBuf, cast_eq]
  after_results_simp <;> rfl
/-- The operations before the first TensorCore call leave the table as at the launch. -/
theorem c1_arg1 : c1 m d (Proc.devRef .tc main_arg1) = m ((d.tc : Thread nD τ).loc main_arg1) := by
  refine Eq.trans ?_ (cS_arg1 m d)
  unfold c1
  simp only [opsB, TRef.binary, TRef.nullary, TRef.ternary, TRef.unary, TRef.toBuf, TRef.ofBuf, cast_eq]
  after_results_simp <;> rfl
/-- The operations before the first TensorCore call leave the first layer's matrix as at the launch. -/
theorem c1_arg2 : c1 m d (Proc.devRef .tc main_arg2) = m ((d.tc : Thread nD τ).loc main_arg2) := by
  refine Eq.trans ?_ (cS_arg2 m d)
  unfold c1
  simp only [opsB, TRef.binary, TRef.nullary, TRef.ternary, TRef.unary, TRef.toBuf, TRef.ofBuf, cast_eq]
  after_results_simp <;> rfl
/-- The operations before the first TensorCore call leave the first layer's bias as at the launch. -/
theorem c1_arg3 : c1 m d (Proc.devRef .tc main_arg3) = m ((d.tc : Thread nD τ).loc main_arg3) := by
  refine Eq.trans ?_ (cS_arg3 m d)
  unfold c1
  simp only [opsB, TRef.binary, TRef.nullary, TRef.ternary, TRef.unary, TRef.toBuf, TRef.ofBuf, cast_eq]
  after_results_simp <;> rfl
/-- The operations before the first TensorCore call leave the second layer's matrix as at the launch. -/
theorem c1_arg4 : c1 m d (Proc.devRef .tc main_arg4) = m ((d.tc : Thread nD τ).loc main_arg4) := by
  refine Eq.trans ?_ (cS_arg4 m d)
  unfold c1
  simp only [opsB, TRef.binary, TRef.nullary, TRef.ternary, TRef.unary, TRef.toBuf, TRef.ofBuf, cast_eq]
  after_results_simp <;> rfl
/-- The operations before the first TensorCore call leave the second layer's bias as at the launch. -/
theorem c1_arg5 : c1 m d (Proc.devRef .tc main_arg5) = m ((d.tc : Thread nD τ).loc main_arg5) := by
  refine Eq.trans ?_ (cS_arg5 m d)
  unfold c1
  simp only [opsB, TRef.binary, TRef.nullary, TRef.ternary, TRef.unary, TRef.toBuf, TRef.ofBuf, cast_eq]
  after_results_simp <;> rfl
/-- and the operations before the first TensorCore call keep it. -/
theorem c1_v3 : c1 m d (Proc.devRef .tc main_v3) = gathered (Tt m d) (Xx m d) := by
  refine Eq.trans ?_ (cS_v3 m d)
  unfold c1
  simp only [opsB, TRef.binary, TRef.nullary, TRef.ternary, TRef.unary, TRef.toBuf, TRef.ofBuf, cast_eq]
  after_results_simp <;> rfl
/-- The first layer's matrix, widened by 64 lanes of zeros. -/
theorem c1_v4 : c1 m d (Proc.devRef .tc main_v4) = pad S128x128 ![0, 0] ![0, 64] ![0, 0] (m ((d.tc : Thread nD τ).loc main_arg2) : S128x64.Idx → Elt F .f32)
    (sitofp .f32 (constantI S_ 32 0#32)) pads_S128x64_S128x128_000_0640 h_S_ := by
  rw [← cS_arg2 m d]
  unfold c1
  simp only [opsB, TRef.binary, TRef.nullary, TRef.ternary, TRef.unary, TRef.toBuf, TRef.ofBuf, cast_eq]
  after_results_simp <;> rfl
/-- The first layer's bias as one row. -/
theorem c1_v5 : c1 m d (Proc.devRef .tc main_v5) = shapeCast S1x128 (m ((d.tc : Thread nD τ).loc main_arg3) : S128.Idx → Elt F .f32) shapeCasts_S128_S1x128 := by
  rw [← cS_arg3 m d]
  unfold c1
  simp only [opsB, TRef.binary, TRef.nullary, TRef.ternary, TRef.unary, TRef.toBuf, TRef.ofBuf, cast_eq]
  after_results_simp <;> rfl
/-- The second layer's bias cut into fifty tiles. -/
theorem c1_v6 : c1 m d (Proc.devRef .tc main_v6) = shapeCast S50x1x2000 (m ((d.tc : Thread nD τ).loc main_arg5) : S100000.Idx → Elt F .f32) shapeCasts_S100000_S50x1x2000 := by
  rw [← cS_arg5 m d]
  unfold c1
  simp only [opsB, TRef.binary, TRef.nullary, TRef.ternary, TRef.unary, TRef.toBuf, TRef.ofBuf, cast_eq]
  after_results_simp <;> rfl

/-! The kernels write their own results alone. -/

/-- The first TensorCore call does not write the word ids. -/
theorem c2_arg0 : c2 m d (Proc.devRef .tc main_arg0) = c1 m d (Proc.devRef .tc main_arg0) :=
  Pipeline.afterRegion_of_not_arr (Stats.data (c1 m d) d) (c1 m d) (b := main_arg0) (by decide)
/-- The first TensorCore call does not write the table. -/
theorem c2_arg1 : c2 m d (Proc.devRef .tc main_arg1) = c1 m d (Proc.devRef .tc main_arg1) :=
  Pipeline.afterRegion_of_not_arr (Stats.data (c1 m d) d) (c1 m d) (b := main_arg1) (by decide)
/-- The first TensorCore call does not write the first layer's matrix. -/
theorem c2_arg2 : c2 m d (Proc.devRef .tc main_arg2) = c1 m d (Proc.devRef .tc main_arg2) :=
  Pipeline.afterRegion_of_not_arr (Stats.data (c1 m d) d) (c1 m d) (b := main_arg2) (by decide)
/-- The first TensorCore call does not write the first layer's bias. -/
theorem c2_arg3 : c2 m d (Proc.devRef .tc main_arg3) = c1 m d (Proc.devRef .tc main_arg3) :=
  Pipeline.afterRegion_of_not_arr (Stats.data (c1 m d) d) (c1 m d) (b := main_arg3) (by decide)
/-- The first TensorCore call does not write the second layer's matrix. -/
theorem c2_arg4 : c2 m d (Proc.devRef .tc main_arg4) = c1 m d (Proc.devRef .tc main_arg4) :=
  (Pipeline.afterRegion_arr (Stats.data (c1 m d) d) (c1 m d) launch1.win.arr_inj 3).trans ((Stats.data (c1 m d) d).arrAt_in 3 rfl _)
/-- The first TensorCore call does not write the second layer's bias. -/
theorem c2_arg5 : c2 m d (Proc.devRef .tc main_arg5) = c1 m d (Proc.devRef .tc main_arg5) :=
  Pipeline.afterRegion_of_not_arr (Stats.data (c1 m d) d) (c1 m d) (b := main_arg5) (by decide)
/-- The first TensorCore call does not write the bias's tiles. -/
theorem c2_v6 : c2 m d (Proc.devRef .tc main_v6) = c1 m d (Proc.devRef .tc main_v6) :=
  (Pipeline.afterRegion_arr (Stats.data (c1 m d) d) (c1 m d) launch1.win.arr_inj 4).trans ((Stats.data (c1 m d) d).arrAt_in 4 rfl _)
/-- The second TensorCore call does not write the word ids. -/
theorem c3_arg0 : c3 m d (Proc.devRef .tc main_arg0) = c2 m d (Proc.devRef .tc main_arg0) :=
  Pipeline.afterRegion_of_not_arr (Write.data (c2 m d) d) (c2 m d) (b := main_arg0) (by decide)
/-- The second TensorCore call does not write the table. -/
theorem c3_arg1 : c3 m d (Proc.devRef .tc main_arg1) = c2 m d (Proc.devRef .tc main_arg1) :=
  Pipeline.afterRegion_of_not_arr (Write.data (c2 m d) d) (c2 m d) (b := main_arg1) (by decide)
/-- The second TensorCore call does not write the first layer's matrix. -/
theorem c3_arg2 : c3 m d (Proc.devRef .tc main_arg2) = c2 m d (Proc.devRef .tc main_arg2) :=
  Pipeline.afterRegion_of_not_arr (Write.data (c2 m d) d) (c2 m d) (b := main_arg2) (by decide)
/-- The second TensorCore call does not write the first layer's bias. -/
theorem c3_arg3 : c3 m d (Proc.devRef .tc main_arg3) = c2 m d (Proc.devRef .tc main_arg3) :=
  Pipeline.afterRegion_of_not_arr (Write.data (c2 m d) d) (c2 m d) (b := main_arg3) (by decide)
/-- The second TensorCore call does not write the second layer's matrix. -/
theorem c3_arg4 : c3 m d (Proc.devRef .tc main_arg4) = c2 m d (Proc.devRef .tc main_arg4) :=
  (Pipeline.afterRegion_arr (Write.data (c2 m d) d) (c2 m d) launch2.win.arr_inj 2).trans ((Write.data (c2 m d) d).arrAt_in 2 rfl _)
/-- The second TensorCore call does not write the second layer's bias. -/
theorem c3_arg5 : c3 m d (Proc.devRef .tc main_arg5) = c2 m d (Proc.devRef .tc main_arg5) :=
  Pipeline.afterRegion_of_not_arr (Write.data (c2 m d) d) (c2 m d) (b := main_arg5) (by decide)
/-- At the end the word ids is as at the launch. -/
theorem c4_arg0 : c4 m d (Proc.devRef .tc main_arg0) = m ((d.tc : Thread nD τ).loc main_arg0) := by
  refine Eq.trans ?_ ((c3_arg0 m d).trans ((c2_arg0 m d).trans (c1_arg0 m d)))
  unfold c4
  simp only [opsC, TRef.binary, TRef.nullary, TRef.ternary, TRef.unary, TRef.toBuf, TRef.ofBuf, cast_eq]
  after_results_simp <;> rfl
/-- At the end the table is as at the launch. -/
theorem c4_arg1 : c4 m d (Proc.devRef .tc main_arg1) = m ((d.tc : Thread nD τ).loc main_arg1) := by
  refine Eq.trans ?_ ((c3_arg1 m d).trans ((c2_arg1 m d).trans (c1_arg1 m d)))
  unfold c4
  simp only [opsC, TRef.binary, TRef.nullary, TRef.ternary, TRef.unary, TRef.toBuf, TRef.ofBuf, cast_eq]
  after_results_simp <;> rfl
/-- At the end the first layer's matrix is as at the launch. -/
theorem c4_arg2 : c4 m d (Proc.devRef .tc main_arg2) = m ((d.tc : Thread nD τ).loc main_arg2) := by
  refine Eq.trans ?_ ((c3_arg2 m d).trans ((c2_arg2 m d).trans (c1_arg2 m d)))
  unfold c4
  simp only [opsC, TRef.binary, TRef.nullary, TRef.ternary, TRef.unary, TRef.toBuf, TRef.ofBuf, cast_eq]
  after_results_simp <;> rfl
/-- At the end the first layer's bias is as at the launch. -/
theorem c4_arg3 : c4 m d (Proc.devRef .tc main_arg3) = m ((d.tc : Thread nD τ).loc main_arg3) := by
  refine Eq.trans ?_ ((c3_arg3 m d).trans ((c2_arg3 m d).trans (c1_arg3 m d)))
  unfold c4
  simp only [opsC, TRef.binary, TRef.nullary, TRef.ternary, TRef.unary, TRef.toBuf, TRef.ofBuf, cast_eq]
  after_results_simp <;> rfl
/-- At the end the second layer's matrix is as at the launch. -/
theorem c4_arg4 : c4 m d (Proc.devRef .tc main_arg4) = m ((d.tc : Thread nD τ).loc main_arg4) := by
  refine Eq.trans ?_ ((c3_arg4 m d).trans ((c2_arg4 m d).trans (c1_arg4 m d)))
  unfold c4
  simp only [opsC, TRef.binary, TRef.nullary, TRef.ternary, TRef.unary, TRef.toBuf, TRef.ofBuf, cast_eq]
  after_results_simp <;> rfl
/-- At the end the second layer's bias is as at the launch. -/
theorem c4_arg5 : c4 m d (Proc.devRef .tc main_arg5) = m ((d.tc : Thread nD τ).loc main_arg5) := by
  refine Eq.trans ?_ ((c3_arg5 m d).trans ((c2_arg5 m d).trans (c1_arg5 m d)))
  unfold c4
  simp only [opsC, TRef.binary, TRef.nullary, TRef.ternary, TRef.unary, TRef.toBuf, TRef.ofBuf, cast_eq]
  after_results_simp <;> rfl

/-- The result is the write kernel's array of tiles, laid out in rows. -/
theorem c4_v9 : c4 m d (Proc.devRef .tc main_v9) = shapeCast S1024x100000 (c3 m d (Proc.devRef .tc main_v8) : S1024x50x1x2000.Idx → Elt F .f32) shapeCasts_S1024x50x1x2000_S1024x100000 := by
  unfold c4
  simp only [opsC, TRef.binary, TRef.nullary, TRef.ternary, TRef.unary, TRef.toBuf, TRef.ofBuf, cast_eq]
  after_results_simp <;> rfl

end Cert.Proof.Program

end
-- ==== Proof.Launch.lean ====
/-
  The launch: from any memory whose indices name rows of the table, every fair execution of the program ends, with all
  semaphores at zero, the arguments as they were and the result at the contents the stages compute.
-/
module

public import proofs.«01_k».proof.Proof.Reads
public import Idealize.ShloMosaic.Lib.SparseCore.Quiescent

@[expose] public section

set_option maxRecDepth 16384

noncomputable section

namespace Cert.Proof.Program

open Cert.KernelIdeal Cert.KernelIdeal.Gen
open Cert.Proof.Gather (UU UH UP ΛP K D 𝒱 v₀ EH tLoc xLoc oLoc tqRest P gathered)
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs cellsGhost toksInit)
open Idealize.ShloMosaic.Rounds

variable {F : FTy → Type} [FloatOps F]

local notation "𝕄" => MT nD τ sig (HIx 1) (Elt F) ℕ UU ℕ

/-- The ghost state at launch: the SparseCore call's, and the two pipelines'. -/
def u₀ : UU := (initOf (K (F := F)).hsCells (K (F := F)).hsToks,
  (initOf (Pipeline.cells (nD := nD) (τ := τ) (pcs (F := F)) pcs_inj) (Pipeline.launchToks (nD := nD) (τ := τ) (pcs (F := F)) pcs_inj), 1))

variable (m : (ℓ : Loc nD τ sig) → Buf (Elt F) ℓ) (ρ : Dev nD → PrngReg)

/-- The ghost state of both pipelines' cells and tokens is what a device's TensorCore takes. -/
theorem pipes (d : Dev nD) : iprop((bigSep Finset.univ fun p => cellsGhost (pcs (F := F)) EP p d) ∗ (bigSep Finset.univ fun p => (toksInit (pcs (F := F)) EP p d : sProp 𝕄)))
    ⊢ (G d : sProp 𝕄) := by
  unfold G
  rw [show (Finset.univ : Finset (Fin 2)) = {0, 1} by decide, SparseCore.bigSep_insert' (by decide), bigSep_singleton, SparseCore.bigSep_insert' (by decide), bigSep_singleton]
  iintro ⟨⟨Ha, Hb⟩, Hc, Hd⟩
  isplitl [Ha Hc]
  · isplitl [Ha]; · iexact Ha
    iexact Hc
  isplitl [Hb]; · iexact Hb
  iexact Hd

/-- Nothing for every thread is nothing. -/
theorem noTask : (bigSep (Finset.univ : Finset (Thread nD τ)) fun _ => iprop(emp)) = (iprop(emp) : sProp 𝕄) := bigSep_emp_const _

/-- The launch element gives the handshakes' ghost state, the two pipelines', and nothing more. -/
theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P (Tt m) (Xx m)).x q thr) := by
  unfold u₀
  iintro Hu
  ihave H := (ownU_pair (initOf (K (F := F)).hsCells (K (F := F)).hsToks) _) $$ Hu
  icases H with ⟨HH, HP⟩
  ihave HP := (own_pair_emb embR _ _) $$ HP
  icases HP with ⟨HP, -⟩
  imod (Pipeline.fund_ghost (pcs (F := F)) EP pcs_inj) $$ HP with ⟨Hc, Ht⟩
  imodintro
  isplitl [HH]; · iexact HH
  isplitl [Hc Ht]
  · iapply (Entails.of_eq (bigSep_univ_of_subsingleton (0 : Dev nD) (Φ := (G (F := F)))).symm)
    iapply (pipes (F := F) (0 : Dev nD))
    isplitl [Hc]
    · iapply (Entails.of_eq (bigSep_univ_of_subsingleton (0 : Dev nD) (Φ := fun c => bigSep Finset.univ fun p => (cellsGhost (pcs (F := F)) EP p c : sProp 𝕄))))
      iexact Hc
    iapply (Entails.of_eq (bigSep_univ_of_subsingleton (0 : Dev nD) (Φ := fun c => bigSep Finset.univ fun p => (toksInit (pcs (F := F)) EP p c : sProp 𝕄))))
    iexact Ht
  rw [show (bigSep Finset.univ fun thr : Thread nD τ => bigSep Finset.univ fun q : Fin 1 => (P (Tt m) (Xx m)).x q thr) = bigSep Finset.univ fun _ => iprop(emp) from
    bigSep_congr fun _ _ => bigSep_univ_of_subsingleton (0 : Fin 1), noTask]
  iempintro

/-- What the final memory holds. -/
def fq (d : Dev nD) (s' : Phys nD τ sig (Elt F)) : Prop := ∀ b ∈ ucRefs τ sig, s'.mem.mem ((d.tc : Thread nD τ).1, b) = c4 m d b

/-- Holding every buffer at its final contents says what the memory holds. -/
theorem hfin (d : Dev nD) (s' : Phys nD τ sig (Elt F)) : iprop(FIN m d ∗ SI s') ⊢ (⌜fq m d s'⌝ : sProp 𝕄) := by
  unfold FIN StableHlo.held
  iintro H
  ihave H := (pointsTo_read_all (ucRefs τ sig) (fun b => ((d.tc : Thread nD τ).1, b)) (c4 m d) s') $$ H
  icases H with ⟨%h, -⟩
  ipureintro; exact h

/-- Every index names a row of the table. -/
def InRows : Prop := ∀ (d : Dev nD) (j : S1024x20.Idx), (m ((d.tc : Thread nD τ).loc main_arg0) j : Elt F .i32).toNat < 100000

/-- If every word id names a row, so does every entry of the gather's list. -/
theorem Xx_lt (h : InRows m) (d : Dev nD) (x : S1x20480.Idx) : (Xx m d x).toNat < 100000 := by
  rw [Xx_eq]
  exact h d _

/-- The run: every unscoped buffer ends at its computed contents, every semaphore at zero. -/
theorem run_main [∀ e, Nonempty (Elt F e)] (h : InRows m) :
    θ_run (defs (F := F)) (threads (F := F)) ⟨m, fun _ => 0, ρ⟩
      fun r => (∀ d : Dev nD, ∀ b ∈ ucRefs τ sig, r.2.mem ((d.tc : Thread nD τ).1, b) = c4 m d b) ∧ r.2.sem = fun _ => 0 :=
  SparseCore.Cfg.θ_run_sc_quiescent (K := K (F := F)) (D := D (F := F)) (𝒱 := 𝒱) (EH := EH) (P := P (Tt m) (Xx m)) (A := ∅) Gather.facts v₀
    (fun q hq => match q with | 0 => nomatch hq)
    (fun q _ => match q with | 0 => Gather.tileObl (Tt m) (Xx m) (Xx_lt m h))
    (fun q _ => match q with | 0 => SparseCore.Cfg.VecSplit.of_plain (Gather.vecSplit (Tt m) (Xx m)))
    m ρ main G (FIN m) (u₀ (F := F)) (sep_elim_left.trans (hu₀ m)) (hmain m ρ) (fq m) (hfin m) _ (fun _ h hz => ⟨h, hz⟩)

end Cert.Proof.Program

end
-- ==== Proof.Same.lean ====
/-
  The kernel and its idealization are printed as the same text, so at any floats they are the same program: their body
  tables and their threads are equal.
-/
module

public import proofs.«01_k».proof.Proof.Gen.Kernel
public import proofs.«01_k».proof.Proof.Gen.KernelIdeal

@[expose] public section

set_option maxRecDepth 16384

noncomputable section

namespace Cert.Proof.Same

open Idealize.ShloMosaic

variable {F : FTy → Type} [FloatOps F]

/-- The gather kernel's body on a tile is the same. -/
theorem gather (c) (s) (a) : @Cert.Kernel.defs₀ F _ _ (.scVector c s) 0 a = @Cert.KernelIdeal.defs₀ F _ _ (.scVector c s) 0 a := rfl

/-- The stats kernel's body is the same. -/
theorem stats (a) : @Cert.Kernel.defs₀ F _ _ .tc 1 a = @Cert.KernelIdeal.defs₀ F _ _ .tc 1 a := rfl

/-- The write kernel's body is the same. -/
theorem write (a) : @Cert.Kernel.defs₀ F _ _ .tc 2 a = @Cert.KernelIdeal.defs₀ F _ _ .tc 2 a := rfl

set_option maxHeartbeats 2000000 in
/-- The table of the kernels' bodies is the same, processor by processor and label by label. -/
theorem bodies : @Cert.Kernel.defs₀ F _ _ = @Cert.KernelIdeal.defs₀ F _ _ := by
  funext p l a
  match p, l, a with
  | .scVector c s, 0, a => exact gather c s a
  | .scVector c s, 1, a => rfl
  | .scVector c s, 2, a => rfl
  | .tc, 0, a => rfl
  | .tc, 1, a => exact stats a
  | .tc, 2, a => exact write a
  | .scScalar c, 0, a => rfl
  | .scScalar c, 1, a => rfl
  | .scScalar c, 2, a => rfl

/-- The whole body table is the same. -/
theorem defs : @Cert.Kernel.defs F _ _ = @Cert.KernelIdeal.defs F _ _ :=
  congrArg (fun D => (Cert.KernelIdeal.sc (F := F)).defs (Pipeline.defs Cert.KernelIdeal.pcfgs D)) bodies

/-- The threads are the same. -/
theorem threads : @Cert.Kernel.threads F _ _ = @Cert.KernelIdeal.threads F _ _ := rfl

end Cert.Proof.Same

end
-- ==== Proof.Frames.lean ====
/-
  The frames: each program ends, leaves its arguments as they were and every semaphore at zero. The kernel's are
  its run (Launch) read at the arguments, the precondition being the run's own; the reference declares no semaphore.
-/
module

public import proofs.«01_k».proof.Defs
public import proofs.«01_k».proof.Proof.Launch
public import proofs.«01_k».proof.Proof.Same
public import proofs.«01_k».proof.Proof.Gen.Kernel
public import proofs.«01_k».proof.Proof.Gen.ReferenceIdeal
public import proofs.«01_k».proof.Proof.Gen.ReferenceIdeal.Run
public import proofs.«01_k».proof.Proof.Gen.Pre_rows_named

@[expose] public section

set_option maxRecDepth 16384

noncomputable section

namespace Cert.Proof

open Cert.KernelIdeal
open Idealize.ShloMosaic Idealize.SL.Sem

/-- Both comparisons hold exactly when their conjunction's bit is one. -/
theorem and_bits (a b : Bool) : IntOp.andi (BitVec.ofBool a) (BitVec.ofBool b) = BitVec.ofBool (a && b) := by
  cases a <;> cases b <;> decide

/-- A bit made of a truth value is one exactly when it is true. -/
theorem bit_one (a : Bool) : BitVec.ofBool a = 1#1 ↔ a = true := by cases a <;> decide

/-- A word between zero and the number of rows, as a signed number, is below it as an unsigned one. -/
theorem word_lt (w : BitVec 32) (e : IntOp.andi (IntOp.cmpi .sge w 0#32) (IntOp.cmpi .slt w 100000#32) = 1#1) : w.toNat < 100000 := by
  simp only [IntOp.cmpi, and_bits, bit_one, Bool.and_eq_true, BitVec.sle_eq_decide, BitVec.slt_eq_decide, decide_eq_true_eq,
    BitVec.toInt_eq_toNat_cond, BitVec.toNat_ofNat, Nat.reducePow, Nat.reduceMod] at e
  omega

/-- The index precondition of the idealization says that every index names a row. -/
theorem inRows_ideal (m : (ℓ : Loc nD τ sig) → Buf (Elt Ideal) ℓ) (h : Cert.Pre_KernelIdeal m) : Program.InRows m := by
  intro d j
  have e := congrFun (h d) j
  simp only [Cert.Pre_rows_named.fn, andi, cmpi, broadcastInDim, constantI] at e
  exact word_lt _ e

/-- And the index precondition of the kernel itself. -/
theorem inRows_kernel (m : (ℓ : Loc nD τ sig) → Buf (Elt Bits) ℓ) (h : Cert.Pre_Kernel m) : Program.InRows m := by
  intro d j
  have e := congrFun (h d) j
  simp only [Cert.Pre_rows_named.fn, andi, cmpi, broadcastInDim, constantI] at e
  exact word_lt _ e

section
variable {F : FTy → Type} [FloatOps F] [∀ e, Nonempty (Elt F e)]

/-- The run with the arguments and the result read. -/
theorem run_read (m : (ℓ : Loc nD τ sig) → Buf (Elt F) ℓ) (ρ : Dev nD → PrngReg) (h : Program.InRows m) :
    θ_run (defs (F := F)) (threads (F := F)) ⟨m, fun _ => 0, ρ⟩ fun r => (∀ c : Dev nD,
      r.2.mem ((c.tc : Thread nD τ).loc main_v9) = Program.c4 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => ⟨h.1 c _ (Pipeline.devRef_mem_ucRefs (b := main_v9) rfl),
      (h.1 c _ (Pipeline.devRef_mem_ucRefs (b := main_arg0) rfl)).trans (Program.c4_arg0 m c),
      (h.1 c _ (Pipeline.devRef_mem_ucRefs (b := main_arg1) rfl)).trans (Program.c4_arg1 m c),
      (h.1 c _ (Pipeline.devRef_mem_ucRefs (b := main_arg2) rfl)).trans (Program.c4_arg2 m c),
      (h.1 c _ (Pipeline.devRef_mem_ucRefs (b := main_arg3) rfl)).trans (Program.c4_arg3 m c),
      (h.1 c _ (Pipeline.devRef_mem_ucRefs (b := main_arg4) rfl)).trans (Program.c4_arg4 m c),
      (h.1 c _ (Pipeline.devRef_mem_ucRefs (b := main_arg5) rfl)).trans (Program.c4_arg5 m c)⟩, h.2⟩) (Program.run_main m ρ h)
end

/-- The kernel's frame, at the machine's floats: its program is the idealization's (Same). -/
theorem frame_kernel : Cert.quiescent_Kernel := by
  intro m ρ h
  have run := (θ_run Cert.KernelIdeal.defs _ _).mono (fun _ h => (⟨fun c => (h.1 c).2, h.2⟩ : _ ∧ _)) (run_read (F := Bits) m ρ (inRows_kernel m h))
  exact (congrArg (fun D => (θ_run D (Cert.KernelIdeal.threads (F := Bits)) ⟨m, fun _ => 0, ρ⟩) fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0)
    (Same.defs (F := Bits))).mpr run

/-- The kernel's frame, at the extended reals. -/
theorem frame_ideal : Cert.quiescent_KernelIdeal := fun m ρ h =>
  (θ_run Cert.KernelIdeal.defs _ _).mono (fun _ h => ⟨fun c => (h.1 c).2, h.2⟩) (run_read (F := Ideal) m ρ (inRows_ideal m h))

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Outputs.lean ====
/-
  The arrays at the ends of the two TensorCore kernels, read off their windows: what each window's block is of its array, and
  what the arrays written back hold.
-/
module

public import proofs.«01_k».proof.Proof.Reads
public import Idealize.ShloMosaic.Lib.Pipeline.ValueKit

@[expose] public section

set_option maxRecDepth 16384

noncomputable section

namespace Cert.Proof.Outputs

open Cert.KernelIdeal Cert.KernelIdeal.Gen Cert.Proof.Program
open Idealize.ShloMosaic Idealize.ShloMosaic.TcCoe Idealize.ShloMosaic.Tactic
open Idealize.ShloMosaic.Pipeline (Dat Cfg Window)

variable {F : FTy → Type} [FloatOps F]

/-! The windows' index maps. -/

/-- Window 0 of kernel 1 stays at its array's start. -/
theorem at1_0 : ∀ t : Fin cfg1.N, win1_0.index t = ![0, 0] := (by decide +kernel : ∀ t : Fin grid1.N, _)
/-- Window 1 of kernel 1 stays at its array's start. -/
theorem at1_1 : ∀ t : Fin cfg1.N, win1_1.index t = ![0, 0] := (by decide +kernel : ∀ t : Fin grid1.N, _)
/-- Window 2 of kernel 1 stays at its array's start. -/
theorem at1_2 : ∀ t : Fin cfg1.N, win1_2.index t = ![0, 0] := (by decide +kernel : ∀ t : Fin grid1.N, _)
/-- Window 3 of kernel 1 is at tile `t` at point `t`. -/
theorem at1_3 : ∀ t : Fin cfg1.N, win1_3.index t = ![t.val, 0] := (by decide +kernel : ∀ t : Fin grid1.N, _)
/-- Window 4 of kernel 1 is at tile `t` at point `t`. -/
theorem at1_4 : ∀ t : Fin cfg1.N, win1_4.index t = ![t.val, 0, 0] := (by decide +kernel : ∀ t : Fin grid1.N, _)
/-- Window 5 of kernel 1 stays at its array's start. -/
theorem at1_5 : ∀ t : Fin cfg1.N, win1_5.index t = ![0, 0] := (by decide +kernel : ∀ t : Fin grid1.N, _)
/-- Window 6 of kernel 1 stays at its array's start. -/
theorem at1_6 : ∀ t : Fin cfg1.N, win1_6.index t = ![0, 0] := (by decide +kernel : ∀ t : Fin grid1.N, _)
/-- Window 0 of kernel 2 stays at its array's start. -/
theorem at2_0 : ∀ t : Fin cfg2.N, win2_0.index t = ![0, 0] := (by decide +kernel : ∀ t : Fin grid2.N, _)
/-- Window 1 of kernel 2 stays at its array's start. -/
theorem at2_1 : ∀ t : Fin cfg2.N, win2_1.index t = ![0, 0] := (by decide +kernel : ∀ t : Fin grid2.N, _)
/-- Window 2 of kernel 2 is at tile `t` at point `t`. -/
theorem at2_2 : ∀ t : Fin cfg2.N, win2_2.index t = ![t.val, 0] := (by decide +kernel : ∀ t : Fin grid2.N, _)
/-- Window 3 of kernel 2 is at tile `t` at point `t`. -/
theorem at2_3 : ∀ t : Fin cfg2.N, win2_3.index t = ![t.val, 0, 0] := (by decide +kernel : ∀ t : Fin grid2.N, _)
/-- Window 4 of kernel 2 is at tile `t` at point `t`. -/
theorem at2_4 : ∀ t : Fin cfg2.N, win2_4.index t = ![0, t.val, 0, 0] := (by decide +kernel : ∀ t : Fin grid2.N, _)

variable (V : Valuation τ sig (Elt F)) (d : Dev nD)

/-! The blocks of the first kernel's windows: the whole array, or the tile of the point. -/

/-- The first kernel's window on the gathered rows is the whole array, -/
theorem stats0 (t : Fin cfg1.N) : (Stats.blkAt V 0 t : S20480x128.Idx → Elt F .f32) = V (Proc.devRef .tc main_v3) := by
  funext y
  unfold Stats.blkAt
  blk_simp
  blk_ext [at1_0]
/-- on the first layer's matrix, too, -/
theorem stats1 (t : Fin cfg1.N) : (Stats.blkAt V 1 t : S128x128.Idx → Elt F .f32) = V (Proc.devRef .tc main_v4) := by
  funext y
  unfold Stats.blkAt
  blk_simp
  blk_ext [at1_1]
/-- and on its bias; -/
theorem stats2 (t : Fin cfg1.N) : (Stats.blkAt V 2 t : S1x128.Idx → Elt F .f32) = V (Proc.devRef .tc main_v5) := by
  funext y
  unfold Stats.blkAt
  blk_simp
  blk_ext [at1_2]

/-- The row of a tile among all rows, -/
def row (t : ℕ) (ht : t < 50) (l : Fin 2000) : Fin 100000 := ⟨t * 2000 + l.val, by omega⟩

/-- A point of the first kernel is less than 50, -/
theorem lt1 (t : Fin cfg1.N) : t.val < 50 := by have e : cfg1.N = 50 := N_1; have h := t.isLt; omega
/-- and one of the second. -/
theorem lt2 (t : Fin cfg2.N) : t.val < 50 := by have e : cfg2.N = 50 := N_2; have h := t.isLt; omega

/-- its window on the second layer's matrix is rows `2000 t` to `2000 t + 1999`, -/
theorem stats3 (t : Fin cfg1.N) (l : Fin 2000) (k : Fin 128) : (Stats.blkAt V 3 t : S2000x128.Idx → Elt F .f32) (ix2 l k)
    = (V (Proc.devRef .tc main_arg4) : S100000x128.Idx → Elt F .f32) (ix2 (row t.val (lt1 t) l) k) := by
  unfold Stats.blkAt
  blk_simp
  blk_ext [at1_3, row]
/-- and its window on the bias the tile `t`. -/
theorem stats4 (t : Fin cfg1.N) (l : Fin 2000) : (Stats.blkAt V 4 t : S1x1x2000.Idx → Elt F .f32) (ix3 0 0 l)
    = (V (Proc.devRef .tc main_v6) : S50x1x2000.Idx → Elt F .f32) (ix3 ⟨t.val, lt1 t⟩ 0 l) := by
  unfold Stats.blkAt
  blk_simp
  blk_ext [at1_4]

/-! The same of the second kernel's windows. -/

/-- Its window on the hidden layer is the whole array, -/
theorem write0 (t : Fin cfg2.N) : (Write.blkAt V 0 t : S1024x128.Idx → Elt F .bf16) = V (Proc.devRef .tc main_v7_0) := by
  funext y
  unfold Write.blkAt
  blk_simp
  blk_ext [at2_0]
/-- on the log-sum-exp, too; -/
theorem write1 (t : Fin cfg2.N) : (Write.blkAt V 1 t : S1024x128.Idx → Elt F .f32) = V (Proc.devRef .tc main_v7_1) := by
  funext y
  unfold Write.blkAt
  blk_simp
  blk_ext [at2_1]
/-- its window on the second layer's matrix is rows `2000 t` to `2000 t + 1999`, -/
theorem write2 (t : Fin cfg2.N) (l : Fin 2000) (k : Fin 128) : (Write.blkAt V 2 t : S2000x128.Idx → Elt F .f32) (ix2 l k)
    = (V (Proc.devRef .tc main_arg4) : S100000x128.Idx → Elt F .f32) (ix2 (row t.val (lt2 t) l) k) := by
  unfold Write.blkAt
  blk_simp
  blk_ext [at2_2, row]
/-- and its window on the bias the tile `t`. -/
theorem write3 (t : Fin cfg2.N) (l : Fin 2000) : (Write.blkAt V 3 t : S1x1x2000.Idx → Elt F .f32) (ix3 0 0 l)
    = (V (Proc.devRef .tc main_v6) : S50x1x2000.Idx → Elt F .f32) (ix3 ⟨t.val, lt2 t⟩ 0 l) := by
  unfold Write.blkAt
  blk_simp
  blk_ext [at2_3]

/-! What the kernels leave in the arrays that they write. -/

/-- The last point of the first kernel. -/
def p49 : Fin cfg1.N := ⟨49, by decide⟩

variable (m : (ℓ : Loc nD τ sig) → Buf (Elt F) ℓ)

/-- The hidden layer. -/
theorem c2_v7_0 : (c2 m d (Proc.devRef .tc main_v7_0) : S1024x128.Idx → Elt F .bf16) = Stats.hid (c1 m d) := by
  refine (Pipeline.afterRegion_arr (Stats.data (c1 m d) d) (c1 m d) launch1.win.arr_inj 5).trans ?_
  refine (Stats.data (c1 m d) d).arrAt_eq_of_after_last 5 p49 (by decide +kernel) _ fun j => ?_
  blk_simp
  rw [Stats.after5]
/-- The log-sum-exp of each row, in every lane. -/
theorem c2_v7_1 : (c2 m d (Proc.devRef .tc main_v7_1) : S1024x128.Idx → Elt F .f32) = Stats.lse (c1 m d) := by
  refine (Pipeline.afterRegion_arr (Stats.data (c1 m d) d) (c1 m d) launch1.win.arr_inj 6).trans ?_
  refine (Stats.data (c1 m d) d).arrAt_eq_of_after_last 6 p49 (by decide +kernel) _ fun j => ?_
  blk_simp
  rw [Stats.after6]

/-- A tile of the second kernel's result. -/
def tile (V : Valuation τ sig (Elt F)) (t : Fin cfg2.N) : S1024x1x1x2000.Idx → Elt F .f32 :=
  k2_pay1 (Write.blkAt V 2 t) (Write.blkAt V 0 t) (Write.blkAt V 3 t) (Write.blkAt V 1 t)
/-- What the second kernel's result holds: at each index the value of the tile that it lies in. -/
def written (V : Valuation τ sig (Elt F)) (i : S1024x50x1x2000.Idx) : Elt F .f32 :=
  tile V ⟨(i 1).val, (i 1).isLt⟩ (ix4 (i 0) 0 0 (i 3))

/-- So the result is, after the second kernel. -/
theorem c3_v8 : (c3 m d (Proc.devRef .tc main_v8) : S1024x50x1x2000.Idx → Elt F .f32) = written (c2 m d) := by
  refine (Pipeline.afterRegion_arr (Write.data (c2 m d) d) (c2 m d) launch2.win.arr_inj 4).trans ?_
  refine (Write.data (c2 m d) d).arrAt_eq_of_covers 4 _ (by decide +kernel) fun t hf y => ?_
  blk_simp
  rw [Write.after4]
  change tile (c2 m d) t y = _
  have ey : (y : S1024x1x1x2000.Idx) = ix4 (y 0) 0 0 (y 3) := eq_ix4 _ |>.trans (by congr 1 <;> exact Subsingleton.elim _ _)
  have e : ((win2_4.blk t).view.emb y : S1024x50x1x2000.Idx) = ix4 (y 0) ⟨t.val, lt2 t⟩ 0 (y 3) := by blk_ext [at2_4]
  rw [e]
  exact congrArg (tile (c2 m d) t) ey

end Cert.Proof.Outputs

end
-- ==== Proof.Online.lean ====
/-
  The running log-sum-exp over the extended reals: a row of real logits taken tile by tile into a running maximum and a running
  sum, and the row's log-softmax from the two.
-/
module

public import Idealize.ShloMosaic.Lib.Pointwise

@[expose] public section

noncomputable section

namespace Cert.Proof.Online

open Idealize.ShloMosaic

/-- An extended real that is a real. -/
def Real (x : EReal) : Prop := ∃ r : ℝ, x = (r : EReal)

/-- A sum of two reals is a real, -/
theorem Real.add {x y : EReal} (hx : Real x) (hy : Real y) : Real (x + y) := by
  obtain ⟨a, rfl⟩ := hx; obtain ⟨b, rfl⟩ := hy; exact ⟨a + b, (EReal.coe_add a b).symm⟩
/-- so is a product, -/
theorem Real.mul {x y : EReal} (hx : Real x) (hy : Real y) : Real (x * y) := by
  obtain ⟨a, rfl⟩ := hx; obtain ⟨b, rfl⟩ := hy; exact ⟨a * b, (EReal.coe_mul a b).symm⟩
/-- so is the greater of the two, -/
theorem Real.max {x y : EReal} (hx : Real x) (hy : Real y) : Real (max x y) := by
  rcases max_choice x y with h | h <;> rw [h] <;> assumption
/-- so is 0, -/
theorem Real.zero : Real 0 := ⟨0, rfl⟩
/-- and so is a finite sum. -/
theorem Real.sum {ι : Type} (s : Finset ι) (f : ι → EReal) (hf : ∀ i, Real (f i)) : Real (∑ i ∈ s, f i) := by
  classical
  induction s using Finset.induction_on with
  | empty => exact Real.zero
  | insert a s ha ih => rw [Finset.sum_insert ha]; exact (hf a).add ih

/-- The sum of coerced reals. -/
theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- The maximum of reals, one at least, taken up from −∞ is real. -/
theorem real_fold {ι : Type} (s : Finset ι) (hs : s.Nonempty) (f : ι → EReal) (hf : ∀ i, Real (f i)) : Real (s.fold Max.max ⊥ f) := by
  classical
  induction hs using Finset.Nonempty.cons_induction with
  | singleton a => rw [Finset.fold_singleton, max_bot_right]; exact hf a
  | cons a s ha hs ih => rw [Finset.fold_cons]; exact (hf a).max ih

/-- What the running pair holds after `n` tiles of the row `T`: before any, −∞ and 0; then some real and the sum of the
    exponentials of the logits so far less that real. -/
def Holds {K : ℕ} (T : ℕ → Fin K → ℝ) (n : ℕ) (m s : EReal) : Prop :=
  (n = 0 ∧ m = ⊥ ∧ s = 0) ∨ ∃ M : ℝ, m = (M : EReal) ∧ s = ((∑ j ∈ Finset.range n, ∑ l, Real.exp (T j l - M) : ℝ) : EReal)

/-- Before any tile the pair is −∞ and 0. -/
theorem holds_zero {K : ℕ} (T : ℕ → Fin K → ℝ) : Holds T 0 ⊥ 0 := .inl ⟨rfl, rfl, rfl⟩

/-- One tile more: the maximum `M'` with the tile's own, the sum brought to it, and the tile's exponentials added. -/
theorem holds_succ {K : ℕ} [NeZero K] (T : ℕ → Fin K → ℝ) (n : ℕ) (m s : EReal) (x : Fin K → EReal) (hx : ∀ l, x l = (T n l : EReal)) (h : Holds T n m s)
    (M' : EReal) (hM : M' = max m (Finset.univ.fold Max.max ⊥ x)) :
    Holds T (n + 1) M' (s * Ideal.exp (m - M') + ∑ l, Ideal.exp (x l - M')) := by
  have hr : Real (Finset.univ.fold Max.max ⊥ x) := real_fold _ Finset.univ_nonempty x fun l => ⟨_, hx l⟩
  have tile : ∀ M : ℝ, ∑ l, Ideal.exp (x l - (M : EReal)) = ((∑ l, Real.exp (T n l - M) : ℝ) : EReal) := fun M => by
    rw [← coe_sum]
    exact Finset.sum_congr rfl fun l _ => by rw [hx, ← EReal.coe_sub, Ideal.exp_coe]
  rcases h with ⟨rfl, rfl, rfl⟩ | ⟨M, rfl, rfl⟩
  · rw [max_bot_left] at hM
    obtain ⟨N, hN⟩ := hr
    rw [hN] at hM
    subst hM
    refine .inr ⟨N, rfl, ?_⟩
    rw [tile, zero_mul, zero_add, Finset.sum_range_one]
  · obtain ⟨N, hN⟩ : Real M' := hM ▸ (Real.max ⟨M, rfl⟩ hr)
    rw [hN]
    refine .inr ⟨N, rfl, ?_⟩
    rw [tile, ← EReal.coe_sub, Ideal.exp_coe, ← EReal.coe_mul, ← EReal.coe_add, Finset.sum_range_succ, Finset.sum_mul]
    congr 2
    refine Finset.sum_congr rfl fun j _ => ?_
    rw [Finset.sum_mul]
    refine Finset.sum_congr rfl fun l _ => ?_
    rw [← Real.exp_add]
    congr 1
    ring

/-- A logit less the maximum plus the logarithm of the sum is the logit less `R` less the logarithm of the sum about `R`, for
    any real `R`. -/
theorem log_softmax {K N : ℕ} [NeZero K] (hN : 0 < N) (T : ℕ → Fin K → ℝ) (m s : EReal) (h : Holds T N m s) (x R : ℝ) :
    (x : EReal) - (m + Ideal.log s) = ((x : EReal) - (R : EReal)) - Ideal.log ((∑ j ∈ Finset.range N, ∑ l, Real.exp (T j l - R) : ℝ) : EReal) := by
  rcases h with ⟨h, -⟩ | ⟨M, rfl, rfl⟩
  · omega
  have pos : ∀ M : ℝ, 0 < ∑ j ∈ Finset.range N, ∑ l, Real.exp (T j l - M) := fun M =>
    Finset.sum_pos (fun j _ => Finset.sum_pos (fun l _ => Real.exp_pos _) Finset.univ_nonempty) ⟨0, Finset.mem_range.mpr hN⟩
  have shift : ∑ j ∈ Finset.range N, ∑ l, Real.exp (T j l - M) = Real.exp (R - M) * ∑ j ∈ Finset.range N, ∑ l, Real.exp (T j l - R) := by
    rw [Finset.mul_sum]
    refine Finset.sum_congr rfl fun j _ => ?_
    rw [Finset.mul_sum]
    refine Finset.sum_congr rfl fun l _ => ?_
    rw [← Real.exp_add]
    congr 1
    ring
  rw [Ideal.log_coe, if_neg (not_le.mpr (pos M)), Ideal.log_coe, if_neg (not_le.mpr (pos R)), shift, Real.log_mul (Real.exp_pos _).ne' (pos R).ne', Real.log_exp,
    ← EReal.coe_add, ← EReal.coe_sub, ← EReal.coe_sub, ← EReal.coe_sub]
  congr 1
  ring

end Cert.Proof.Online

end
-- ==== Proof.RefValue.lean ====
/-
  The reference's result, over the extended reals, read at an index.
-/
module

public import proofs.«01_k».proof.Proof.Gen.ReferenceIdeal.Run
public import proofs.«01_k».proof.Proof.Online
public import Idealize.ShloMosaic.Lib.Pointwise
public import Idealize.ShloMosaic.Lib.Tactic.WordOmega

@[expose] public section

set_option maxRecDepth 16384

noncomputable section

namespace Cert.Proof.RefValue

open Cert.ReferenceIdeal Cert.ReferenceIdeal.Gen
open Idealize.ShloMosaic Idealize.ShloMosaic.TcCoe Idealize.ShloMosaic.Tactic

/-- The indices, a negative one taken from the table's end, -/
def wrapped (X : IVec S1024x20 32) : IVec S1024x20x1 32 :=
  broadcastInDim S1024x20x1 ![0, 1] bcast_S1024x20_S1024x20x1_0_1 (select (cmpi .slt X (broadcastInDim S1024x20 ![] bcast_S_S1024x20 (constantI S_ 32 0#32)))
    (addi X (broadcastInDim S1024x20 ![] bcast_S_S1024x20 (constantI S_ 32 100000#32))) X)
/-- whether they name a row, -/
def inside (I : IVec S1024x20x1 32) : IVec S1024x20 1 :=
  Host.reduce IntOp.andi (andi (cmpi .sge I (broadcastInDim S1024x20x1 ![] bcast_S_S1024x20x1 (constantI S_ 32 0#32)))
    (cmpi .sle I (broadcastInDim S1024x20x1 ![0, 1, 2] bcast_S1x1x1_S1024x20x1_0_1_2 (broadcastInDim S1x1x1 ![2] bcast_S1_S1x1x1_2 (constantI S1 32 99999#32)))))
    (constantI S_ 1 1#1) reducesTo_S1024x20x1_S1024x20_d2 h_S_
/-- and the rows looked up. -/
def looked (X : IVec S1024x20 32) (E : FVec Ideal S100000x64 .f32) : FVec Ideal S1024x20x64 .f32 :=
  select (broadcastInDim S1024x20x64 ![0, 1] bcast_S1024x20_S1024x20x64_0_1 (inside (wrapped X)))
    (Host.gather gather_S100000x64_S1024x20x1_S1024x20x64_2_0_n_n_0_2_164 E (wrapped X))
    (broadcastInDim S1024x20x64 ![] bcast_S_S1024x20x64 (constant (F := Ideal) S_ .f32 0x7FC00000#32))
/-- The hidden layer over the rows looked up, -/
def hidden (R : FVec Ideal S1024x20x64 .f32) (W : FVec Ideal S128x64 .f32) (b : FVec Ideal S128 .f32) : FVec Ideal S1024x128 .f32 :=
  maximumf (addf (Host.dotGeneral dot_S1024x64_S64x128_S1024x128_1_0_0_1_n_n none (Host.reduceAdd R (constant S_ .f32 0x00000000#32) reducesTo_S1024x20x64_S1024x64_d1 h_S_)
      (transpose S64x128 [1, 0] W transposes_S128x64_S64x128_1_0))
    (broadcastInDim S1024x128 ![0, 1] bcast_S1x128_S1024x128_0_1 (broadcastInDim S1x128 ![1] bcast_S128_S1x128_1 b)))
    (broadcastInDim S1024x128 ![] bcast_S_S1024x128 (constant S_ .f32 0x00000000#32))
/-- the logits over the hidden layer, -/
def logits (H : FVec Ideal S1024x128 .f32) (W : FVec Ideal S100000x128 .f32) (b : FVec Ideal S100000 .f32) : FVec Ideal S1024x100000 .f32 :=
  addf (Host.dotGeneral dot_S1024x128_S128x100000_S1024x100000_1_0_0_1_n_n none H (transpose S128x100000 [1, 0] W transposes_S100000x128_S128x100000_1_0))
    (broadcastInDim S1024x100000 ![0, 1] bcast_S1x100000_S1024x100000_0_1 (broadcastInDim S1x100000 ![1] bcast_S100000_S1x100000_1 b))
/-- the largest of each row, -/
def largest (L : FVec Ideal S1024x100000 .f32) : FVec Ideal S1024 .f32 :=
  Host.reduce FloatOps.maximumf L (constant S_ .f32 0xFF800000#32) reducesTo_S1024x100000_S1024_d1 h_S_
/-- (taken up from −∞ once more) -/
def most (L : FVec Ideal S1024x100000 .f32) : FVec Ideal S1024 .f32 :=
  maximumf (broadcastInDim S1024 ![] bcast_S_S1024 (constant S_ .f32 0xFF800000#32)) (largest L)
/-- the logits less it, -/
def shifted (L : FVec Ideal S1024x100000 .f32) : FVec Ideal S1024x100000 .f32 :=
  subf L (broadcastInDim S1024x100000 ![0, 1] bcast_S1024x1_S1024x100000_0_1 (broadcastInDim S1024x1 ![0] bcast_S1024_S1024x1_0 (most L)))
/-- and those less the logarithm of the sum of their exponentials. -/
def normal (D : FVec Ideal S1024x100000 .f32) : FVec Ideal S1024x100000 .f32 :=
  subf D (broadcastInDim S1024x100000 ![0, 1] bcast_S1024x1_S1024x100000_0_1 (Host.log (broadcastInDim S1024x1 ![0] bcast_S1024_S1024x1_0
    (Host.reduceAdd (Host.exp D) (constant S_ .f32 0x00000000#32) reducesTo_S1024x100000_S1024_d1 h_S_))))

variable (m : (ℓ : Loc nD τ sig) → Buf (Elt Ideal) ℓ) (d : Dev nD)

/-- The reference's result is these, one after the other. -/
theorem result_eq : Cert.ReferenceIdeal.Value.res_main_v14 m d
    = normal (shifted (logits (hidden (looked (m ((d.tc : Thread nD τ).loc main_arg0)) (m ((d.tc : Thread nD τ).loc main_arg1)))
        (m ((d.tc : Thread nD τ).loc main_arg2)) (m ((d.tc : Thread nD τ).loc main_arg3))) (m ((d.tc : Thread nD τ).loc main_arg4)) (m ((d.tc : Thread nD τ).loc main_arg5)))) := rfl

/-! The pieces at an index. -/

/-- Axis 1 is not among the axes that the lookup collapses. -/
theorem not_one : (1 : Fin 2) ∉ ([0] : List (Fin 2)) := by decide

/-- The lookup at an index: the table's row of the index there, brought down to the last row. -/
theorem gather_at (E : FVec Ideal S100000x64 .f32) (I : IVec S1024x20x1 32) (r : Fin 1024) (c : Fin 20) (x : Fin 64) :
    Host.gather gather_S100000x64_S1024x20x1_S1024x20x64_2_0_n_n_0_2_164 E I (ix3 r c x) = E (ix2 ⟨min (I (ix3 r c 0)).toInt.toNat 99999, by omega⟩ x) := by
  unfold Host.gather
  congr 1
  funext a
  refine Fin.ext ?_
  show (gather_S100000x64_S1024x20x1_S1024x20x64_2_0_n_n_0_2_164).start (ix3 r c x) I a + (gather_S100000x64_S1024x20x1_S1024x20x64_2_0_n_n_0_2_164).batchCoord (ix3 r c x) a
    + (gather_S100000x64_S1024x20x1_S1024x20x64_2_0_n_n_0_2_164).offCoord (ix3 r c x) a = _
  rw [GatherDims.batchCoord_eq_zero _ _ _ (fun h => by cases h)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (gather_S100000x64_S1024x20x1_S1024x20x64_2_0_n_n_0_2_164).startIndexMap from List.mem_singleton.mpr rfl)]
    have e : (gather_S100000x64_S1024x20x1_S1024x20x64_2_0_n_n_0_2_164).siIdx (ix3 r c x)
        ⟨List.idxOf (0 : Fin 2) (gather_S100000x64_S1024x20x1_S1024x20x64_2_0_n_n_0_2_164).startIndexMap, List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [e]
    rfl
  · unfold GatherDims.start
    rw [dif_neg (show (1 : Fin 2) ∉ (gather_S100000x64_S1024x20x1_S1024x20x64_2_0_n_n_0_2_164).startIndexMap from not_one)]
    unfold GatherDims.offCoord
    rw [dif_pos ((GatherDims.mem_sKept _ _).mpr ⟨not_one, fun h => by cases h⟩)]
    simp only [Nat.zero_add]
    rfl

/-- With the indices in range, the rows looked up are the rows they name. -/
theorem looked_at (X : IVec S1024x20 32) (hX : ∀ i, (X i).toNat < 100000) (E : FVec Ideal S100000x64 .f32) (r : Fin 1024) (c : Fin 20) (x : Fin 64) :
    looked X E (ix3 r c x) = E (ix2 ⟨(X (ix2 r c)).toNat, hX _⟩ x) := by
  have hw : wrapped X (ix3 r c 0) = X (ix2 r c) := by
    pointwise [wrapped]
    have h := hX (ix2 r c)
    generalize X (ix2 r c) = w at h ⊢
    word_omega
  have hi : inside (wrapped X) (ix2 r c) = 1#1 := by
    have one : ∀ x : Fin 1, IntOp.andi (IntOp.cmpi CmpIPredicate.sge (wrapped X (ix3 r c x)) 0#32) (IntOp.cmpi CmpIPredicate.sle (wrapped X (ix3 r c x)) 99999#32) = 1#1 := by
      intro x
      obtain rfl : x = 0 := Subsingleton.elim _ _
      rw [hw]
      have h := hX (ix2 r c)
      generalize X (ix2 r c) = w at h ⊢
      word_omega
    pointwise [inside]
    rw [Finset.fold_congr fun x _ => one x]
    decide
  have h := hX (ix2 r c)
  have e : (X (ix2 r c)).toInt.toNat = (X (ix2 r c)).toNat := by
    rw [BitVec.toInt_eq_toNat_of_lt (by omega)]; rfl
  pointwise [looked]
  rw [hi, gather_at]
  simp only [hw, e]
  have e' : min (X (ix2 r c)).toNat 99999 = (X (ix2 r c)).toNat := by omega
  simp only [e']
  pointwise

/-- A unit of the hidden layer. -/
theorem hidden_at (R : FVec Ideal S1024x20x64 .f32) (W : FVec Ideal S128x64 .f32) (b : FVec Ideal S128 .f32) (r : Fin 1024) (k : Fin 128) :
    hidden R W b (ix2 r k) = max ((∑ x : Fin 64, (∑ c : Fin 20, R (ix3 r c x)) * W (ix2 k x)) + b (ix1 k)) 0 := by
  pointwise [hidden]

/-- A logit. -/
theorem logits_at (H : FVec Ideal S1024x128 .f32) (W : FVec Ideal S100000x128 .f32) (b : FVec Ideal S100000 .f32) (r : Fin 1024) (v : Fin 100000) :
    logits H W b (ix2 r v) = (∑ k : Fin 128, H (ix2 r k) * W (ix2 v k)) + b (ix1 v) := by
  pointwise [logits]

/-- A logit less its row's maximum. -/
theorem shifted_at (L : FVec Ideal S1024x100000 .f32) (r : Fin 1024) (v : Fin 100000) : shifted L (ix2 r v) = L (ix2 r v) - most L (ix1 r) := by
  pointwise [shifted]

/-- The float word of −∞. -/
theorem bits_bot : Ideal.ofBits .f32 0xFF800000#32 = ⊥ := by simp [Ideal.ofBits, Ideal.ieee]

/-- The greater of −∞ and an entry is the entry. -/
theorem over_bot (y : FVec Ideal S1024 .f32) (r : Fin 1024) :
    maximumf (broadcastInDim S1024 ![] bcast_S_S1024 (constant (F := Ideal) S_ .f32 0xFF800000#32)) y (ix1 r) = y (ix1 r) := by
  pointwise
  rw [bits_bot, max_bot_left]

/-- So the row's maximum is the maximum over its entries. -/
theorem most_at (L : FVec Ideal S1024x100000 .f32) (r : Fin 1024) : most L (ix1 r) = largest L (ix1 r) := over_bot (largest L) r

/-- Reducing axis 1 leaves the rows. -/
theorem rows : S1024x100000.Reduces [1] S1024 := by decide

/-- The row's maximum as a fold over its entries, -/
theorem largest_at (L : FVec Ideal S1024x100000 .f32) (r : Fin 1024) : largest L (ix1 r)
    = (Finset.univ : Finset (Fin (S1024x100000.size 1))).fold FloatOps.maximumf ((constant (F := Ideal) S_ .f32 0xFF800000#32) (Shape.Idx.first h_S_)) (L ∘ rows.lift (ix1 r)) := by
  unfold largest
  exact Host.reduce_eq_fold_single FloatOps.maximumf L _ reducesTo_S1024x100000_S1024_d1 rows h_S_ _

/-- taken up from −∞. -/
theorem first_bot : (constant (F := Ideal) S_ .f32 0xFF800000#32) (Shape.Idx.first h_S_) = (⊥ : EReal) := by
  pointwise
  rw [bits_bot]

/-- The maximum of a row of reals is a real. -/
theorem most_real (L : FVec Ideal S1024x100000 .f32) (hL : ∀ i, Online.Real (L i)) (r : Fin 1024) : Online.Real (most L (ix1 r)) := by
  rw [most_at, largest_at, first_bot]
  exact Online.real_fold _ ⟨(⟨0, by decide⟩ : Fin (S1024x100000.size 1)), Finset.mem_univ _⟩ _ fun v => hL _

/-- A shifted logit less the logarithm of its row's sum of exponentials. -/
theorem normal_at (D : FVec Ideal S1024x100000 .f32) (r : Fin 1024) (v : Fin 100000) :
    normal D (ix2 r v) = D (ix2 r v) - Ideal.log (∑ v : Fin 100000, Ideal.exp (D (ix2 r v))) := by
  pointwise [normal]

end Cert.Proof.RefValue

end
-- ==== Proof.Layers.lean ====
/-
  The values that the two TensorCore kernels compute at one point, over the extended reals, read at an index.
-/
module

public import proofs.«01_k».proof.Proof.Gen.KernelIdeal.Skeleton
public import proofs.«01_k».proof.Proof.RefValue
public import Idealize.ShloMosaic.Lib.Pointwise

@[expose] public section

set_option maxRecDepth 16384

noncomputable section

namespace Cert.Proof.Layers

open Cert.KernelIdeal Cert.KernelIdeal.Gen
open Idealize.ShloMosaic

/-- The hidden layer: the sum of a row's looked-up vectors, through the first matrix, its bias and the positive part. -/
theorem hidden (g : Vec Ideal S20480x128 .f32) (w : Vec Ideal S128x128 .f32) (b : Vec Ideal S1x128 .f32) (r : Fin 1024) (k : Fin 128) :
    k1_pay2 g w b (ix2 r k) = max ((∑ x : Fin 128, (∑ c : Fin 20, g (ix2 ⟨c.val * 1024 + r.val, by omega⟩ x)) * w (ix2 k x)) + b (ix2 0 k)) 0 := by
  pointwise [k1_pay2]

/-- A tile's logits. -/
theorem logit (w : Vec Ideal S2000x128 .f32) (h : Vec Ideal S1024x128 .bf16) (b : Vec Ideal S1x1x2000 .f32) (r : Fin 1024) (l : Fin 2000) :
    k1_pay5 w h b (ix2 r l) = (∑ k : Fin 128, h (ix2 r k) * w (ix2 l k)) + b (ix3 0 0 l) := by
  pointwise [k1_pay5]

/-- The running maximum after a tile. -/
theorem top (w : Vec Ideal S2000x128 .f32) (h : Vec Ideal S1024x128 .bf16) (b : Vec Ideal S1x1x2000 .f32) (m : Vec Ideal S1024x1 .f32) (r : Fin 1024) :
    k1_pay8 w h b m (ix2 r 0) = max (m (ix2 r 0)) (Finset.univ.fold max ⊥ fun l : Fin 2000 => k1_pay5 w h b (ix2 r l)) := by
  pointwise [k1_pay8, k1_pay6]
  rw [RefValue.bits_bot]

/-- The running sum after a tile. -/
theorem sum (w : Vec Ideal S2000x128 .f32) (h : Vec Ideal S1024x128 .bf16) (b : Vec Ideal S1x1x2000 .f32) (m s : Vec Ideal S1024x1 .f32) (r : Fin 1024) :
    k1_pay7 w h b m s m (ix2 r 0) = s (ix2 r 0) * Ideal.exp (m (ix2 r 0) - k1_pay8 w h b m (ix2 r 0))
      + ∑ l : Fin 2000, Ideal.exp (k1_pay5 w h b (ix2 r l) - k1_pay8 w h b m (ix2 r 0)) := by
  pointwise [k1_pay7, k1_pay8]

/-- What the two start from. -/
theorem start_m (r : Fin 1024) : (k1_pay3 (F := Ideal)) (ix2 r 0) = (⊥ : EReal) := by
  pointwise [k1_pay3]
  rw [RefValue.bits_bot]
/-- and the running sum from 0. -/
theorem start_s (r : Fin 1024) : (k1_pay4 (F := Ideal)) (ix2 r 0) = (0 : EReal) := by
  pointwise [k1_pay4]

/-- The log-sum-exp off the two. -/
theorem lse (m s : Vec Ideal S1024x1 .f32) (r : Fin 1024) (k : Fin 128) : k1_pay1 m s (ix2 r k) = m (ix2 r 0) + Ideal.log (s (ix2 r 0)) := by
  pointwise [k1_pay1]

/-- A tile of the result: its logits less the log-sum-exp. -/
theorem result (w : Vec Ideal S2000x128 .f32) (h : Vec Ideal S1024x128 .bf16) (b : Vec Ideal S1x1x2000 .f32) (z : Vec Ideal S1024x128 .f32) (r : Fin 1024) (l : Fin 2000) :
    k2_pay1 w h b z (ix4 r 0 0 l) = ((∑ k : Fin 128, h (ix2 r k) * w (ix2 l k)) + b (ix3 0 0 l)) - z (ix2 r 0) := by
  pointwise [k2_pay1]

end Cert.Proof.Layers

end
-- ==== Proof.KernelValue.lean ====
/-
  The kernel's result, over the extended reals, at an index: its hidden layer and its logits are the reference's, its running
  pair is the row's, and its result is the logit less the log-sum-exp.
-/
module

public import proofs.«01_k».proof.Proof.Outputs
public import proofs.«01_k».proof.Proof.Layers

@[expose] public section

set_option maxRecDepth 16384

noncomputable section

namespace Cert.Proof.KernelValue

open Cert.KernelIdeal Cert.KernelIdeal.Gen Cert.Proof.Program Cert.Proof.Outputs
open Cert.Proof.Gather (gathered)
open Idealize.ShloMosaic Idealize.ShloMosaic.TcCoe Idealize.ShloMosaic.Tactic

variable (m : (ℓ : Loc nD τ sig) → Buf (Elt Ideal) ℓ) (d : Dev nD)

/-! The arguments. -/

/-- The indices, -/
abbrev aX : IVec S1024x20 32 := m ((d.tc : Thread nD τ).loc main_arg0)
/-- the table, -/
abbrev aE : FVec Ideal S100000x64 .f32 := m ((d.tc : Thread nD τ).loc main_arg1)
/-- the first layer's matrix -/
abbrev aW : FVec Ideal S128x64 .f32 := m ((d.tc : Thread nD τ).loc main_arg2)
/-- and bias, -/
abbrev aB : FVec Ideal S128 .f32 := m ((d.tc : Thread nD τ).loc main_arg3)
/-- the second's matrix -/
abbrev aV : FVec Ideal S100000x128 .f32 := m ((d.tc : Thread nD τ).loc main_arg4)
/-- and bias. -/
abbrev aC : FVec Ideal S100000 .f32 := m ((d.tc : Thread nD τ).loc main_arg5)

/-! The gathered rows. -/

/-- The list that the gather reads is the word ids column by column. -/
theorem list_at (r : Fin 1024) (c : Fin 20) : Xx m d (ix2 0 ⟨c.val * 1024 + r.val, by omega⟩) = aX m d (ix2 r c) := by
  rw [Xx_eq]
  pointwise
  blk_ext

/-- The host's zero, and what padding on the right by 64 lanes of it makes of a matrix. -/
theorem zero_eq : (FloatOps.sitofp .f32 (0#32 : BitVec 32) : Ideal .f32) = (0 : EReal) := by
  show (((0#32 : BitVec 32).toInt : ℝ) : EReal) = 0
  simp

/-- The table is widened by zeros, -/
theorem padded_table (E : FVec Ideal S100000x64 .f32) (v : Fin 100000) (x : Fin 128) :
    pad S100000x128 ![0, 0] ![0, 64] ![0, 0] E (sitofp .f32 (constantI S_ 32 0#32)) pads_S100000x64_S100000x128_000_0640 h_S_ (ix2 v x)
      = if h : x.val < 64 then E (ix2 v ⟨x.val, h⟩) else (0 : EReal) := by
  pointwise
  rw [zero_eq]

/-- and so is the first layer's matrix. -/
theorem padded_weights (W : FVec Ideal S128x64 .f32) (k : Fin 128) (x : Fin 128) :
    pad S128x128 ![0, 0] ![0, 64] ![0, 0] W (sitofp .f32 (constantI S_ 32 0#32)) pads_S128x64_S128x128_000_0640 h_S_ (ix2 k x)
      = if h : x.val < 64 then W (ix2 k ⟨x.val, h⟩) else (0 : EReal) := by
  pointwise
  rw [zero_eq]

/-- The widened table as the gather finds it: the table's row in the low lanes, zeros in the others. -/
theorem table_at (v : Fin 100000) (x : Fin 128) : Tt m d (ix2 v x) = if h : x.val < 64 then aE m d (ix2 v ⟨x.val, h⟩) else (0 : EReal) := by
  rw [Tt_eq]
  exact padded_table (aE m d) v x

/-- Two ways to write an index by its coordinates. -/
theorem at2_eq (a b : ℕ) (x : Fin a) (y : Fin b) : Gather.at2 (d := ![a, b]) x y = ix2 x y := by
  funext i
  match i with
  | ⟨0, _⟩ => rfl
  | ⟨1, _⟩ => rfl

/-- Row `c * 1024 + r` of the gathered array is the table's row of word `c` of context `r`. -/
theorem gathered_at (hX : ∀ i, (aX m d i).toNat < 100000) (r : Fin 1024) (c : Fin 20) (x : Fin 128) :
    gathered (Tt m d) (Xx m d) (ix2 ⟨c.val * 1024 + r.val, by omega⟩ x)
      = if h : x.val < 64 then aE m d (ix2 ⟨(aX m d (ix2 r c)).toNat, hX _⟩ ⟨x.val, h⟩) else (0 : EReal) := by
  have e : gathered (Tt m d) (Xx m d) (ix2 ⟨c.val * 1024 + r.val, by omega⟩ x)
      = Tt m d (ix2 ⟨(Xx m d (ix2 0 ⟨c.val * 1024 + r.val, by omega⟩)).toNat % 100000, Nat.mod_lt _ (by omega)⟩ x) := by
    unfold gathered
    refine (congrArg (Tt m d) (at2_eq 100000 128 _ _)).trans ?_
    exact congrArg (fun y => Tt m d (ix2 ⟨(Xx m d y).toNat % 100000, Nat.mod_lt _ (by omega)⟩ x)) (at2_eq 1 20480 _ _)
  rw [e, table_at]
  have n : (Xx m d (ix2 0 ⟨c.val * 1024 + r.val, by omega⟩)).toNat % 100000 = (aX m d (ix2 r c)).toNat := by
    rw [list_at]; exact Nat.mod_eq_of_lt (hX _)
  simp only [n]

/-- The widened matrix as the first kernel finds it. -/
theorem weights_at (k : Fin 128) (x : Fin 128) : (c1 m d (Proc.devRef .tc main_v4) : S128x128.Idx → EReal) (ix2 k x)
    = if h : x.val < 64 then aW m d (ix2 k ⟨x.val, h⟩) else (0 : EReal) := by
  rw [c1_v4]
  exact padded_weights (aW m d) k x

/-- The hidden layer is the reference's. -/
theorem hidden_eq (hX : ∀ i, (aX m d i).toNat < 100000) (r : Fin 1024) (k : Fin 128) :
    Stats.hid (c1 m d) (ix2 r k) = RefValue.hidden (RefValue.looked (aX m d) (aE m d)) (aW m d) (aB m d) (ix2 r k) := by
  have b : (c1 m d (Proc.devRef .tc main_v5) : S1x128.Idx → EReal) (ix2 0 k) = aB m d (ix1 k) := by
    rw [c1_v5]
    pointwise
  unfold Stats.hid
  rw [stats0, stats1, stats2, Layers.hidden, RefValue.hidden_at, b, c1_v3]
  refine congrArg (fun s : EReal => max (s + aB m d (ix1 k)) 0) ?_
  refine (Finset.sum_congr rfl fun x _ => congrArg₂ (fun a b : EReal => a * b) (Finset.sum_congr rfl fun c _ => gathered_at m d hX r c x) (weights_at m d k x)).trans ?_
  rw [Fin.sum_univ_two_halves 64 64 rfl]
  have low : ∀ x : Fin 64, x.val < 64 := fun x => x.isLt
  have high : ∀ x : Fin 64, ¬ 64 + x.val < 64 := fun x => by omega
  simp only [RefValue.looked_at (aX m d) hX, low, high, dif_pos, dif_neg, not_false_eq_true, Finset.sum_const_zero, mul_zero, add_zero]

/-- The logits, as the reference makes them. -/
abbrev aL : FVec Ideal S1024x100000 .f32 :=
  RefValue.logits (RefValue.hidden (RefValue.looked (aX m d) (aE m d)) (aW m d) (aB m d)) (aV m d) (aC m d)

/-- A tile of the second bias is that stretch of it. -/
theorem bias_at (t : Fin 50) (l : Fin 2000) : (c1 m d (Proc.devRef .tc main_v6) : S50x1x2000.Idx → EReal) (ix3 t 0 l) = aC m d (ix1 (row t.val t.isLt l)) := by
  rw [c1_v6]
  pointwise
  blk_ext [row]

/-- The first kernel's tile at a point is theirs. -/
theorem stats_logit (hX : ∀ i, (aX m d i).toNat < 100000) (t : Fin cfg1.N) (r : Fin 1024) (l : Fin 2000) :
    k1_pay5 (Stats.blkAt (c1 m d) 3 t) (Stats.hid (c1 m d)) (Stats.blkAt (c1 m d) 4 t) (ix2 r l) = aL m d (ix2 r (row t.val (lt1 t) l)) := by
  refine Eq.trans ?_ (RefValue.logits_at _ _ _ _ _).symm
  rw [Layers.logit, stats4, bias_at m d ⟨t.val, lt1 t⟩]
  simp only [stats3, hidden_eq m d hX]
  rw [c1_arg4]

/-- The second kernel's tile is theirs less the log-sum-exp. -/
theorem write_tile (hX : ∀ i, (aX m d i).toNat < 100000) (t : Fin cfg2.N) (r : Fin 1024) (l : Fin 2000) :
    tile (c2 m d) t (ix4 r 0 0 l) = aL m d (ix2 r (row t.val (lt2 t) l)) - Stats.lse (c1 m d) (ix2 r 0) := by
  unfold tile
  refine Eq.trans ?_ (congrArg (fun s : EReal => s - _) (RefValue.logits_at _ _ _ _ _).symm)
  rw [write0, write1, c2_v7_0, c2_v7_1, Layers.result, write3, c2_v6, bias_at m d ⟨t.val, lt2 t⟩]
  simp only [write2, hidden_eq m d hX]
  rw [c2_arg4, c1_arg4]

/-- The kernel's result at an index. -/
theorem result_at (hX : ∀ i, (aX m d i).toNat < 100000) (r : Fin 1024) (v : Fin 100000) :
    (c4 m d (Proc.devRef .tc main_v9) : S1024x100000.Idx → EReal) (ix2 r v) = aL m d (ix2 r v) - Stats.lse (c1 m d) (ix2 r 0) := by
  rw [c4_v9, c3_v8]
  pointwise
  have e : row (v.val / 2000) (by omega) ⟨v.val % 2000, by omega⟩ = v := Fin.ext (by show v.val / 2000 * 2000 + v.val % 2000 = v.val; omega)
  refine (write_tile m d hX ⟨v.val / 2000, by have e : cfg2.N = 50 := N_2; omega⟩ r ⟨v.val % 2000, by omega⟩).trans ?_
  rw [e]

end Cert.Proof.KernelValue

end
-- ==== Proof.Finite.lean ====
/-
  The precondition of the value claim read off: every index in its range, every float a real, and so every logit a real.
-/
module

public import proofs.«01_k».proof.Defs
public import proofs.«01_k».proof.Proof.Frames
public import proofs.«01_k».proof.Proof.KernelValue
public import proofs.«01_k».proof.Pre_rows_named_values_finite

@[expose] public section

set_option maxRecDepth 16384

noncomputable section

namespace Cert.Proof

/-- The shape relations of the value claim's precondition: a scalar spreads over every shape. -/
instance finiteFacts : Cert.Pre_rows_named_values_finite.Facts where
  bcast_S_S1024x20 := by decide
  bcast_S_S100000x64 := by decide
  bcast_S_S128x64 := by decide
  bcast_S_S128 := by decide
  bcast_S_S100000x128 := by decide
  bcast_S_S100000 := by decide

open Cert.KernelIdeal
open Cert.Proof.KernelValue (aX aE aW aB aV aC aL)
open Idealize.ShloMosaic Idealize.ShloMosaic.TcCoe Idealize.ShloMosaic.Tactic

/-- The value claim's precondition keeps every index in its range. -/
theorem inRows_finite (m : (ℓ : Loc nD τ sig) → Buf (Elt Ideal) ℓ) (h : Cert.Pre_KernelIdeal_rows_named_values_finite m) : Program.InRows m := by
  intro d j
  have e := congrFun (h d).1 j
  simp only [Cert.Pre_rows_named_values_finite.fn, andi, cmpi, broadcastInDim, constantI] at e
  exact word_lt _ e

/-- The float word of ∞. -/
theorem bits_top : Ideal.ofBits .f32 0x7F800000#32 = ⊤ := by simp [Ideal.ofBits, Ideal.ieee]

/-- An extended real whose absolute value is less than ∞ is a real. -/
theorem real_of_abs (x : Ideal .f32) (h : FloatOps.cmpf .olt (FloatOps.hostAbsf x) (FloatOps.ofBits (F := Ideal) .f32 0x7F800000#32) = 1#1) : Online.Real x := by
  have h' : BitVec.ofBool (decide (max (x : EReal) (-(x : EReal)) < Ideal.ofBits .f32 0x7F800000#32)) = 1#1 := h
  rw [bits_top] at h'
  have lt : max (x : EReal) (-(x : EReal)) < ⊤ := by
    by_contra hn
    simp [hn] at h'
  obtain ⟨a, b⟩ := max_lt_iff.mp lt
  induction x using EReal.rec with
  | bot => simp at b
  | coe r => exact ⟨r, rfl⟩
  | top => simp at a

variable (m : (ℓ : Loc nD τ sig) → Buf (Elt Ideal) ℓ) (h : Cert.Pre_KernelIdeal_rows_named_values_finite m) (d : Dev nD)
include h

/-! Every float of the arguments is a real. -/

/-- The table's, -/
theorem real_table (i : S100000x64.Idx) : Online.Real (aE m d i) := real_of_abs _ (congrFun (h d).2.1 i)
/-- the first layer's matrix's -/
theorem real_weights (i : S128x64.Idx) : Online.Real (aW m d i) := real_of_abs _ (congrFun (h d).2.2.1 i)
/-- and bias's, -/
theorem real_bias (i : S128.Idx) : Online.Real (aB m d i) := real_of_abs _ (congrFun (h d).2.2.2.1 i)
/-- the second layer's matrix's -/
theorem real_weights' (i : S100000x128.Idx) : Online.Real (aV m d i) := real_of_abs _ (congrFun (h d).2.2.2.2.1 i)
/-- and bias's. -/
theorem real_bias' (i : S100000.Idx) : Online.Real (aC m d i) := real_of_abs _ (congrFun (h d).2.2.2.2.2 i)

/-- So is every unit of the hidden layer -/
theorem real_hidden (r : Fin 1024) (k : Fin 128) :
    Online.Real (RefValue.hidden (RefValue.looked (aX m d) (aE m d)) (aW m d) (aB m d) (ix2 r k)) := by
  rw [RefValue.hidden_at]
  refine .max (.add (.sum _ _ fun x => .mul (.sum _ _ fun c => ?_) (real_weights m h d _)) (real_bias m h d _)) .zero
  rw [RefValue.looked_at (aX m d) (inRows_finite m h d)]
  exact real_table m h d _

/-- and every logit. -/
theorem real_logits (i : S1024x100000.Idx) : Online.Real (aL m d i) := by
  rw [eq_ix2 i]
  refine (congrArg Online.Real (RefValue.logits_at _ _ _ _ _)).mpr ?_
  exact .add (.sum _ _ fun k => .mul (real_hidden m h d _ _) (real_weights' m h d _)) (real_bias' m h d _)

end Cert.Proof

end
-- ==== Proof.Algebraic.lean ====
/-
  The value claim: over the extended reals the kernel's result is the reference's, where every index names a row of the table
  and every float is finite.
-/
module

public import proofs.«01_k».proof.Defs
public import proofs.«01_k».proof.Proof.Finite
public import proofs.«01_k».proof.Proof.Online

@[expose] public section

set_option maxRecDepth 16384

noncomputable section

namespace Cert.Proof

open Cert.KernelIdeal Cert.KernelIdeal.Gen Cert.Proof.Program Cert.Proof.Outputs
open Cert.Proof.KernelValue (aX aE aW aB aV aC aL)
open Idealize.ShloMosaic Idealize.ShloMosaic.TcCoe Idealize.ShloMosaic.Tactic

/-- A row of the vocabulary's reals cut into tiles of 2000. -/
def tiles (A : Fin 100000 → ℝ) (j : ℕ) (l : Fin 2000) : ℝ := A ⟨(j * 2000 + l.val) % 100000, Nat.mod_lt _ (by omega)⟩

/-- An entry of tile `t` is the row's entry that far on. -/
theorem tiles_row (A : Fin 100000 → ℝ) (t : ℕ) (ht : t < 50) (l : Fin 2000) : tiles A t l = A (row t ht l) :=
  congrArg A (Fin.ext (Nat.mod_eq_of_lt (by omega)))

/-- A sum over the row is the sum over its fifty tiles. -/
theorem sum_tiles (A : Fin 100000 → ℝ) (f : ℝ → ℝ) : ∑ v, f (A v) = ∑ j ∈ Finset.range 50, ∑ l, f (tiles A j l) := by
  rw [← Fin.sum_univ_eq_sum_range (fun j => ∑ l, f (tiles A j l)) 50]
  have e := Fin.sum_univ_univ_mul_add 50 2000 fun k => f (A ⟨k % 100000, Nat.mod_lt _ (by omega)⟩)
  refine Eq.trans ?_ e.symm
  exact Finset.sum_congr rfl fun v _ => congrArg (fun v => f (A v)) (Fin.ext (Nat.mod_eq_of_lt v.isLt).symm)

section
variable (m : (ℓ : Loc nD τ sig) → Buf (Elt Ideal) ℓ) (d : Dev nD)

/-- The running pair of a row before point `n` is that of its first `n` tiles. -/
theorem pair_holds (hX : ∀ i, (aX m d i).toNat < 100000) (r : Fin 1024) (A : Fin 100000 → ℝ) (hA : ∀ v, aL m d (ix2 r v) = (A v : EReal)) :
    ∀ (n : ℕ) (hn : n ≤ cfg1.N), Online.Holds (tiles A) n ((Stats.st (c1 m d) n hn).1 (ix2 r 0)) ((Stats.st (c1 m d) n hn).2 (ix2 r 0)) := by
  intro n
  induction n with
  | zero =>
    intro hn
    unfold Stats.st
    exact Eq.mpr (congrArg₂ (Online.Holds (tiles A) 0) (Layers.start_m r) (Layers.start_s r)) (Online.holds_zero _)
  | succ n ih =>
    intro hn
    unfold Stats.st
    refine Eq.mpr (congrArg (Online.Holds (tiles A) (n + 1) _) (Layers.sum _ _ _ _ _ r)) ?_
    refine Online.holds_succ (tiles A) n _ _ _ (fun l => ?_) (ih (Nat.le_of_succ_le hn)) _ (Layers.top _ _ _ _ r)
    refine (KernelValue.stats_logit m d hX ⟨n, hn⟩ r l).trans ((hA _).trans ?_)
    exact congrArg _ (tiles_row A n _ l).symm

/-- The kernel's result is the reference's function of the arguments, entry by entry. -/
theorem result_entry (h : Cert.Pre_KernelIdeal_rows_named_values_finite m) (r : Fin 1024) (v : Fin 100000) :
    (c4 m d (Proc.devRef .tc main_v9) : S1024x100000.Idx → EReal) (ix2 r v) = RefValue.normal (RefValue.shifted (aL m d)) (ix2 r v) := by
  have hX : ∀ i, (aX m d i).toNat < 100000 := inRows_finite m h d
  have hL := real_logits m h d
  rw [KernelValue.result_at m d hX]
  generalize hG : aL m d = L at hL
  choose A hA using fun v => hL (ix2 r v)
  obtain ⟨R, hR⟩ := RefValue.most_real L hL r
  have hs : ∀ v, RefValue.shifted L (ix2 r v) = ((A v - R : ℝ) : EReal) := fun v => by
    rw [RefValue.shifted_at, hA, hR, EReal.coe_sub]
  have n50 : cfg1.N = 50 := N_1
  have hp := pair_holds m d hX r A (fun v => by rw [hG, hA]) cfg1.N le_rfl
  have hl : Stats.lse (c1 m d) (ix2 r 0)
      = (Stats.st (c1 m d) cfg1.N le_rfl).1 (ix2 r 0) + Ideal.log ((Stats.st (c1 m d) cfg1.N le_rfl).2 (ix2 r 0)) := Layers.lse _ _ r 0
  rw [RefValue.normal_at, hl, hA, Online.log_softmax (by omega) _ _ _ hp (A v) R, n50, hs, EReal.coe_sub]
  refine congrArg (fun s : EReal => ((A v : EReal) - (R : EReal)) - Ideal.log s) ?_
  rw [← sum_tiles A fun x => Real.exp (x - R), ← Online.coe_sum]
  exact Finset.sum_congr rfl fun v _ => by rw [hs, Ideal.exp_coe]

/-- The same as an equation of arrays. -/
theorem result_whole (h : Cert.Pre_KernelIdeal_rows_named_values_finite m) :
    (c4 m d (Proc.devRef .tc main_v9) : S1024x100000.Idx → EReal) = RefValue.normal (RefValue.shifted (aL m d)) := by
  funext i
  rw [eq_ix2 i]
  exact result_entry m d h _ _

end

/-- On arguments that agree the two programs end with one result. -/
theorem algebraic : Cert.algebraic_KernelIdeal_ReferenceIdeal_pre_rows_named_values_finite := by
  intro m g m' g' h hargs
  refine ⟨fun c => c4 m c (Proc.devRef .tc main_v9), ?_, ?_⟩
  · exact (θ_run Cert.KernelIdeal.defs _ _).mono (fun _ h => h.1) (run_read (F := Ideal) m g (inRows_finite m h))
  · refine (θ_run Cert.ReferenceIdeal.defs _ _).mono (fun _ k c => ⟨(k c).1.trans ?_, (k c).2⟩) (Cert.ReferenceIdeal.Value.run m' g')
    obtain ⟨h0, h1, h2, h3, h4, h5⟩ := hargs c
    refine (RefValue.result_eq m' c).trans (Eq.trans ?_ (result_whole m c h).symm)
    rw [h0, h1, h2, h3, h4, h5]

/-- The ideal kernel's frame under the value claim's precondition. -/
theorem frame_ideal_finite : Cert.quiescent_KernelIdeal_pre_rows_named_values_finite := fun m ρ h =>
  (θ_run Cert.KernelIdeal.defs _ _).mono (fun _ h => ⟨fun c => (h.1 c).2, h.2⟩) (run_read (F := Ideal) m ρ (inRows_finite m h))

/-- The reference's needs none of it. -/
theorem frame_reference_finite : Cert.quiescent_ReferenceIdeal_pre_rows_named_values_finite := fun m ρ _ => frame_reference m ρ trivial

end Cert.Proof

end
-- ==== Proof.lean ====
module

public import proofs.«01_k».proof.Defs
public import proofs.«01_k».proof.Proof.Frames
public import proofs.«01_k».proof.Proof.Algebraic

@[expose] public section

noncomputable section

namespace Cert.Proof

/-- Everything claimed: the frames, that the idealization is the kernel's, and that its result is the reference's. -/
theorem claim : Cert.Claim :=
  ⟨Cert.Kernel.Gen.facts, Cert.KernelIdeal.Gen.facts, Cert.ReferenceIdeal.Gen.facts, Cert.Pre_rows_named.Gen.facts, finiteFacts,
    frame_kernel, frame_ideal, frame_ideal_finite, frame_reference, frame_reference_finite, trivial, algebraic⟩

end Cert.Proof

end
